-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_above_minus_infinity [hPre_above_minus_infinity : Cert.Pre_above_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_above_minus_infinity.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_above_minus_infinity [hPre_above_minus_infinity : Cert.Pre_above_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_above_minus_infinity.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_above_minus_infinity [hKernelIdeal : Cert.KernelIdeal.Facts] [hPre_above_minus_infinity : Cert.Pre_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_above_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_above_minus_infinity [hReferenceIdeal : Cert.ReferenceIdeal.Facts] [hPre_above_minus_infinity : Cert.Pre_above_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_above_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_above_minus_infinity [hKernelIdeal : Cert.KernelIdeal.Facts] [hReferenceIdeal : Cert.ReferenceIdeal.Facts] [hPre_above_minus_infinity : Cert.Pre_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_above_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_above_minus_infinity : Cert.Pre_above_minus_infinity.Facts),
    quiescent_Kernel (hKernel := hKernel)
    ∧ quiescent_KernelIdeal (hKernelIdeal := hKernelIdeal)
    ∧ quiescent_KernelIdeal_pre_above_minus_infinity (hKernelIdeal := hKernelIdeal) (hPre_above_minus_infinity := hPre_above_minus_infinity)
    ∧ quiescent_ReferenceIdeal (hReferenceIdeal := hReferenceIdeal)
    ∧ quiescent_ReferenceIdeal_pre_above_minus_infinity (hReferenceIdeal := hReferenceIdeal) (hPre_above_minus_infinity := hPre_above_minus_infinity)
    ∧ preserves_Kernel_KernelIdeal
    ∧ algebraic_KernelIdeal_ReferenceIdeal_pre_above_minus_infinity (hKernelIdeal := hKernelIdeal) (hReferenceIdeal := hReferenceIdeal) (hPre_above_minus_infinity := hPre_above_minus_infinity)
-- ==== Pre_above_minus_infinity.lean ====
abbrev S16x3x224x224 : Shape := ⟨4, ![16, 3, 224, 224]⟩
abbrev S_ : Shape := ⟨0, ![]⟩

class Facts : Prop where
  bcast_S_S16x3x224x224 : S_.BroadcastsInDim S16x3x224x224 (![] : Fin 0 → Fin S16x3x224x224.rank)

variable [Facts]

def fn {F : FTy → Type} [FloatOps F] (main_arg0 : FVec F S16x3x224x224 .f32) : IVec S16x3x224x224 1 :=
  let main_cst : FVec F S_ .f32 := constant S_ .f32 0xFF800000#32
  let main_v0 : FVec F S16x3x224x224 .f32 := broadcastInDim S16x3x224x224 ![] bcast_S_S16x3x224x224 main_cst
  let main_v1 : IVec S16x3x224x224 1 := cmpf .ogt main_arg0 main_v0
  main_v1
-- ==== Kernel.lean ====
abbrev S16x3x224x224 : Shape := ⟨4, ![16, 3, 224, 224]⟩
abbrev S12x1568x128 : Shape := ⟨3, ![12, 1568, 128]⟩
abbrev S_ : Shape := ⟨0, ![]⟩
abbrev S31 : Shape := ⟨1, ![31]⟩
abbrev S1 : Shape := ⟨1, ![1]⟩
abbrev S32 : Shape := ⟨1, ![32]⟩
abbrev S1x32 : Shape := ⟨2, ![1, 32]⟩
abbrev S1568x128 : Shape := ⟨2, ![1568, 128]⟩
abbrev S12x4x32x1 : Shape := ⟨4, ![12, 4, 32, 1]⟩
abbrev S1x1568x128 : Shape := ⟨3, ![1, 1568, 128]⟩
abbrev S1x4x32x1 : Shape := ⟨4, ![1, 4, 32, 1]⟩
abbrev S1567x128 : Shape := ⟨2, ![1567, 128]⟩
abbrev S1x128 : Shape := ⟨2, ![1, 128]⟩
abbrev S1568x127 : Shape := ⟨2, ![1568, 127]⟩
abbrev S1568x1 : Shape := ⟨2, ![1568, 1]⟩
abbrev S1566x128 : Shape := ⟨2, ![1566, 128]⟩
abbrev S2x128 : Shape := ⟨2, ![2, 128]⟩
abbrev S1568x32 : Shape := ⟨2, ![1568, 32]⟩
abbrev S1568x96 : Shape := ⟨2, ![1568, 96]⟩
abbrev S392x128 : Shape := ⟨2, ![392, 128]⟩
abbrev S1x1 : Shape := ⟨2, ![1, 1]⟩
abbrev S128 : Shape := ⟨1, ![128]⟩
abbrev S32x128 : Shape := ⟨2, ![32, 128]⟩
abbrev S32x1 : Shape := ⟨2, ![32, 1]⟩
abbrev S1x32x1 : Shape := ⟨3, ![1, 32, 1]⟩
abbrev S4x32x1 : Shape := ⟨3, ![4, 32, 1]⟩
abbrev S16x96 : Shape := ⟨2, ![16, 96]⟩

abbrev nBuf : Space → Nat
  | .hbm => 94
  | .vmem => 6
  | .smem => 1
  | _ => 0

abbrev bufTy : (tb : Table) → Fin (tcTables nBuf tb) → BufTy
  | .hbm, ⟨0, _⟩ => ⟨S16x3x224x224, .f32⟩
  | .hbm, ⟨1, _⟩ => ⟨S12x1568x128, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S31, .f32⟩
  | .hbm, ⟨10, _⟩ => ⟨S_, .f32⟩
  | .hbm, ⟨11, _⟩ => ⟨S31, .f32⟩
  | .hbm, ⟨12, _⟩ => ⟨S31, .f32⟩
  | .hbm, ⟨13, _⟩ => ⟨S1, .f32⟩
  | .hbm, ⟨14, _⟩ => ⟨S_, .f32⟩
  | .hbm, ⟨15, _⟩ => ⟨S31, .f32⟩
  | .hbm, ⟨16, _⟩ => ⟨S31, .f32⟩
  | .hbm, ⟨17, _⟩ => ⟨S31, .f32⟩
  | .hbm, ⟨18, _⟩ => ⟨S31, .f32⟩
  | .hbm, ⟨19, _⟩ => ⟨S1, .f32⟩
  | .hbm, ⟨20, _⟩ => ⟨S31, .f32⟩
  | .hbm, ⟨21, _⟩ => ⟨S31, .f32⟩
  | .hbm, ⟨22, _⟩ => ⟨S31, .f32⟩
  | .hbm, ⟨23, _⟩ => ⟨S1, .f32⟩
  | .hbm, ⟨24, _⟩ => ⟨S32, .f32⟩
  | .hbm, ⟨25, _⟩ => ⟨S1x32, .f32⟩
  | .hbm, ⟨26, _⟩ => ⟨S1568x128, .i32⟩
  | .hbm, ⟨27, _⟩ => ⟨S1568x128, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S1568x128, .i32⟩
  | .hbm, ⟨35, _⟩ => ⟨S1568x128, .i32⟩
  | .hbm, ⟨36, _⟩ => ⟨S_, .i32⟩
  | .hbm, ⟨37, _⟩ => ⟨S1568x128, .i32⟩
  | .hbm, ⟨38, _⟩ => ⟨S1568x128, .i1⟩
  | .hbm, ⟨39, _⟩ => ⟨S_, .i32⟩
  | .hbm, ⟨40, _⟩ => ⟨S1568x128, .i32⟩
  | .hbm, ⟨41, _⟩ => ⟨S1568x128, .i1⟩
  | .hbm, ⟨42, _⟩ => ⟨S_, .i32⟩
  | .hbm, ⟨43, _⟩ => ⟨S_, .i1⟩
  | .hbm, ⟨44, _⟩ => ⟨S1568x128, .i1⟩
  | .hbm, ⟨45, _⟩ => ⟨S1568x128, .i1⟩
  | .hbm, ⟨46, _⟩ => ⟨S1568x128, .i1⟩
  | .hbm, ⟨47, _⟩ => ⟨S1568x128, .i32⟩
  | .hbm, ⟨48, _⟩ => ⟨S1568x128, .i32⟩
  | .hbm, ⟨49, _⟩ => ⟨S1568x128, .i32⟩
  | .hbm, ⟨50, _⟩ => ⟨S_, .i32⟩
  | .hbm, ⟨51, _⟩ => ⟨S1568x128, .i32⟩
  | .hbm, ⟨52, _⟩ => ⟨S1568x128, .i32⟩
  | .hbm, ⟨53, _⟩ => ⟨S1568x128, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S1568x128, .i32⟩
  | .hbm, ⟨61, _⟩ => ⟨S1568x128, .i32⟩
  | .hbm, ⟨62, _⟩ => ⟨S_, .i32⟩
  | .hbm, ⟨63, _⟩ => ⟨S1568x128, .i32⟩
  | .hbm, ⟨64, _⟩ => ⟨S1568x128, .i1⟩
  | .hbm, ⟨65, _⟩ => ⟨S_, .i32⟩
  | .hbm, ⟨66, _⟩ => ⟨S1568x128, .i32⟩
  | .hbm, ⟨67, _⟩ => ⟨S1568x128, .i1⟩
  | .hbm, ⟨68, _⟩ => ⟨S_, .i32⟩
  | .hbm, ⟨69, _⟩ => ⟨S_, .i1⟩
  | .hbm, ⟨70, _⟩ => ⟨S1568x128, .i1⟩
  | .hbm, ⟨71, _⟩ => ⟨S1568x128, .i1⟩
  | .hbm, ⟨72, _⟩ => ⟨S1568x128, .i1⟩
  | .hbm, ⟨73, _⟩ => ⟨S1568x128, .i32⟩
  | .hbm, ⟨74, _⟩ => ⟨S1568x128, .i32⟩
  | .hbm, ⟨75, _⟩ => ⟨S1568x128, .i32⟩
  | .hbm, ⟨76, _⟩ => ⟨S_, .i32⟩
  | .hbm, ⟨77, _⟩ => ⟨S1568x128, .i32⟩
  | .hbm, ⟨78, _⟩ => ⟨S1568x128, .i1⟩
  | .hbm, ⟨79, _⟩ => ⟨S_, .f32⟩
  | .hbm, ⟨80, _⟩ => ⟨S_, .f32⟩
  | .hbm, ⟨81, _⟩ => ⟨S1568x128, .f32⟩
  | .hbm, ⟨82, _⟩ => ⟨S1568x128, .f32⟩
  | .hbm, ⟨83, _⟩ => ⟨S1568x128, .f32⟩
  | .hbm, ⟨84, _⟩ => ⟨S_, .i32⟩
  | .hbm, ⟨85, _⟩ => ⟨S1568x128, .i32⟩
  | .hbm, ⟨86, _⟩ => ⟨S1568x128, .i1⟩
  | .hbm, ⟨87, _⟩ => ⟨S_, .f32⟩
  | .hbm, ⟨88, _⟩ => ⟨S_, .f32⟩
  | .hbm, ⟨89, _⟩ => ⟨S1568x128, .f32⟩
  | .hbm, ⟨90, _⟩ => ⟨S1568x128, .f32⟩
  | .hbm, ⟨91, _⟩ => ⟨S1568x128, .f32⟩
  | .hbm, ⟨92, _⟩ => ⟨S12x4x32x1, .f32⟩
  | .hbm, ⟨93, _⟩ => ⟨S16x96, .f32⟩
  | .local _ .vmem, ⟨0, _⟩ => ⟨S1568x128, .f32⟩
  | .local _ .vmem, ⟨1, _⟩ => ⟨S1568x128, .f32⟩
  | .local _ .vmem, ⟨2, _⟩ => ⟨S1x1568x128, .f32⟩
  | .local _ .vmem, ⟨3, _⟩ => ⟨S1x1568x128, .f32⟩
  | .local _ .vmem, ⟨4, _⟩ => ⟨S1x4x32x1, .f32⟩
  | .local _ .vmem, ⟨5, _⟩ => ⟨S1x4x32x1, .f32⟩
  | .local _ .smem, ⟨0, _⟩ => ⟨S1x32, .f32⟩
  | _, _ => ⟨S16x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v5 : Ref sig .tc := ⟨.hbm, 49, rfl⟩
abbrev main_c_1 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_c_2 : Ref sig .tc := ⟨.hbm, 54, rfl⟩
abbrev main_call2_v0 : Ref sig .tc := ⟨.hbm, 55, rfl⟩
abbrev main_call2_c : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_1 : Ref sig .tc := ⟨.hbm, 62, rfl⟩
abbrev main_call2_v5 : Ref sig .tc := ⟨.hbm, 63, rfl⟩
abbrev main_call2_v6 : Ref sig .tc := ⟨.hbm, 64, rfl⟩
abbrev main_call2_c_2 : Ref sig .tc := ⟨.hbm, 65, rfl⟩
abbrev main_call2_v7 : Ref sig .tc := ⟨.hbm, 66, rfl⟩
abbrev main_call2_v8 : Ref sig .tc := ⟨.hbm, 67, rfl⟩
abbrev main_call2_c_3 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_v9 : Ref sig .tc := ⟨.hbm, 75, rfl⟩
abbrev main_c_3 : Ref sig .tc := ⟨.hbm, 76, rfl⟩
abbrev main_v10 : Ref sig .tc := ⟨.hbm, 77, rfl⟩
abbrev main_v11 : Ref sig .tc := ⟨.hbm, 78, rfl⟩
abbrev main_cst_4 : Ref sig .tc := ⟨.hbm, 79, rfl⟩
abbrev main_cst_5 : Ref sig .tc := ⟨.hbm, 80, rfl⟩
abbrev main_call3_v0 : Ref sig .tc := ⟨.hbm, 81, rfl⟩
abbrev main_call3_v1 : Ref sig .tc := ⟨.hbm, 82, rfl⟩
abbrev main_v12 : Ref sig .tc := ⟨.hbm, 83, rfl⟩
abbrev main_c_6 : Ref sig .tc := ⟨.hbm, 84, rfl⟩
abbrev main_v13 : Ref sig .tc := ⟨.hbm, 85, rfl⟩
abbrev main_v14 : Ref sig .tc := ⟨.hbm, 86, rfl⟩
abbrev main_cst_7 : Ref sig .tc := ⟨.hbm, 87, rfl⟩
abbrev main_cst_8 : Ref sig .tc := ⟨.hbm, 88, rfl⟩
abbrev main_call4_v0 : Ref sig .tc := ⟨.hbm, 89, rfl⟩
abbrev main_call4_v1 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1568x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1568x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1568x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x3x224x224 : Shape := ⟨4, ![16, 3, 224, 224]⟩
abbrev S_ : Shape := ⟨0, ![]⟩
abbrev S31 : Shape := ⟨1, ![31]⟩
abbrev S1 : Shape := ⟨1, ![1]⟩
abbrev S32 : Shape := ⟨1, ![32]⟩
abbrev S16x3x50176 : Shape := ⟨3, ![16, 3, 50176]⟩
abbrev S16x3x224x223 : Shape := ⟨4, ![16, 3, 224, 223]⟩
abbrev S16x3x49952 : Shape := ⟨3, ![16, 3, 49952]⟩
abbrev S16x3x223x224 : Shape := ⟨4, ![16, 3, 223, 224]⟩
abbrev S16x3x223x223 : Shape := ⟨4, ![16, 3, 223, 223]⟩
abbrev S16x3x223x223x1 : Shape := ⟨5, ![16, 3, 223, 223, 1]⟩
abbrev S16x3x223x223x4 : Shape := ⟨5, ![16, 3, 223, 223, 4]⟩
abbrev S16x3x49729 : Shape := ⟨3, ![16, 3, 49729]⟩
abbrev S16x3x199809 : Shape := ⟨3, ![16, 3, 199809]⟩
abbrev S50176 : Shape := ⟨1, ![50176]⟩
abbrev S49952 : Shape := ⟨1, ![49952]⟩
abbrev S49729 : Shape := ⟨1, ![49729]⟩
abbrev S199809 : Shape := ⟨1, ![199809]⟩
abbrev S16x3x199809x1 : Shape := ⟨4, ![16, 3, 199809, 1]⟩
abbrev S1x1x1x32 : Shape := ⟨4, ![1, 1, 1, 32]⟩
abbrev S16x3x199809x32 : Shape := ⟨4, ![16, 3, 199809, 32]⟩
abbrev S48 : Shape := ⟨1, ![48]⟩
abbrev S48x1 : Shape := ⟨2, ![48, 1]⟩
abbrev S48x32 : Shape := ⟨2, ![48, 32]⟩
abbrev S48x199809 : Shape := ⟨2, ![48, 199809]⟩
abbrev S48x199809x1 : Shape := ⟨3, ![48, 199809, 1]⟩
abbrev S48x199809x2 : Shape := ⟨3, ![48, 199809, 2]⟩
abbrev S16x96 : Shape := ⟨2, ![16, 96]⟩

abbrev nBuf : Space → Nat
  | .hbm => 104
  | .vmem => 0
  | .smem => 0
  | _ => 0

abbrev bufTy : (tb : Table) → Fin (tcTables nBuf tb) → BufTy
  | .hbm, ⟨0, _⟩ => ⟨S16x3x224x224, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S31, .f32⟩
  | .hbm, ⟨9, _⟩ => ⟨S_, .f32⟩
  | .hbm, ⟨10, _⟩ => ⟨S31, .f32⟩
  | .hbm, ⟨11, _⟩ => ⟨S31, .f32⟩
  | .hbm, ⟨12, _⟩ => ⟨S1, .f32⟩
  | .hbm, ⟨13, _⟩ => ⟨S_, .f32⟩
  | .hbm, ⟨14, _⟩ => ⟨S31, .f32⟩
  | .hbm, ⟨15, _⟩ => ⟨S31, .f32⟩
  | .hbm, ⟨16, _⟩ => ⟨S31, .f32⟩
  | .hbm, ⟨17, _⟩ => ⟨S31, .f32⟩
  | .hbm, ⟨18, _⟩ => ⟨S1, .f32⟩
  | .hbm, ⟨19, _⟩ => ⟨S31, .f32⟩
  | .hbm, ⟨20, _⟩ => ⟨S31, .f32⟩
  | .hbm, ⟨21, _⟩ => ⟨S31, .f32⟩
  | .hbm, ⟨22, _⟩ => ⟨S1, .f32⟩
  | .hbm, ⟨23, _⟩ => ⟨S32, .f32⟩
  | .hbm, ⟨24, _⟩ => ⟨S16x3x50176, .f32⟩
  | .hbm, ⟨25, _⟩ => ⟨S16x3x224x223, .f32⟩
  | .hbm, ⟨26, _⟩ => ⟨S16x3x224x223, .f32⟩
  | .hbm, ⟨27, _⟩ => ⟨S16x3x224x223, .f32⟩
  | .hbm, ⟨28, _⟩ => ⟨S16x3x49952, .f32⟩
  | .hbm, ⟨29, _⟩ => ⟨S16x3x223x224, .f32⟩
  | .hbm, ⟨30, _⟩ => ⟨S16x3x223x224, .f32⟩
  | .hbm, ⟨31, _⟩ => ⟨S16x3x223x224, .f32⟩
  | .hbm, ⟨32, _⟩ => ⟨S16x3x49952, .f32⟩
  | .hbm, ⟨33, _⟩ => ⟨S16x3x223x223, .f32⟩
  | .hbm, ⟨34, _⟩ => ⟨S16x3x223x223, .f32⟩
  | .hbm, ⟨35, _⟩ => ⟨S16x3x223x223, .f32⟩
  | .hbm, ⟨36, _⟩ => ⟨S16x3x223x223, .f32⟩
  | .hbm, ⟨37, _⟩ => ⟨S16x3x223x223x1, .f32⟩
  | .hbm, ⟨38, _⟩ => ⟨S16x3x223x223x1, .f32⟩
  | .hbm, ⟨39, _⟩ => ⟨S16x3x223x223x1, .f32⟩
  | .hbm, ⟨40, _⟩ => ⟨S16x3x223x223x1, .f32⟩
  | .hbm, ⟨41, _⟩ => ⟨S16x3x223x223x4, .f32⟩
  | .hbm, ⟨42, _⟩ => ⟨S_, .f32⟩
  | .hbm, ⟨43, _⟩ => ⟨S16x3x223x223, .f32⟩
  | .hbm, ⟨44, _⟩ => ⟨S16x3x49729, .f32⟩
  | .hbm, ⟨45, _⟩ => ⟨S16x3x199809, .f32⟩
  | .hbm, ⟨46, _⟩ => ⟨S_, .f32⟩
  | .hbm, ⟨47, _⟩ => ⟨S50176, .f32⟩
  | .hbm, ⟨48, _⟩ => ⟨S_, .f32⟩
  | .hbm, ⟨49, _⟩ => ⟨S49952, .f32⟩
  | .hbm, ⟨50, _⟩ => ⟨S49952, .f32⟩
  | .hbm, ⟨51, _⟩ => ⟨S_, .f32⟩
  | .hbm, ⟨52, _⟩ => ⟨S49952, .f32⟩
  | .hbm, ⟨53, _⟩ => ⟨S49952, .f32⟩
  | .hbm, ⟨54, _⟩ => ⟨S_, .f32⟩
  | .hbm, ⟨55, _⟩ => ⟨S49729, .f32⟩
  | .hbm, ⟨56, _⟩ => ⟨S199809, .f32⟩
  | .hbm, ⟨57, _⟩ => ⟨S16x3x199809x1, .f32⟩
  | .hbm, ⟨58, _⟩ => ⟨S1x1x1x32, .f32⟩
  | .hbm, ⟨59, _⟩ => ⟨S16x3x199809x32, .f32⟩
  | .hbm, ⟨60, _⟩ => ⟨S16x3x199809x32, .f32⟩
  | .hbm, ⟨61, _⟩ => ⟨S16x3x199809x32, .i1⟩
  | .hbm, ⟨62, _⟩ => ⟨S16x3x199809x32, .i32⟩
  | .hbm, ⟨63, _⟩ => ⟨S_, .i32⟩
  | .hbm, ⟨64, _⟩ => ⟨S16x3x199809, .i32⟩
  | .hbm, ⟨65, _⟩ => ⟨S_, .i32⟩
  | .hbm, ⟨66, _⟩ => ⟨S16x3x199809, .i32⟩
  | .hbm, ⟨67, _⟩ => ⟨S16x3x199809, .i1⟩
  | .hbm, ⟨68, _⟩ => ⟨S_, .i32⟩
  | .hbm, ⟨69, _⟩ => ⟨S16x3x199809, .i32⟩
  | .hbm, ⟨70, _⟩ => ⟨S16x3x199809, .i32⟩
  | .hbm, ⟨71, _⟩ => ⟨S_, .f32⟩
  | .hbm, ⟨72, _⟩ => ⟨S16x3x199809, .f32⟩
  | .hbm, ⟨73, _⟩ => ⟨S16x3x199809, .f32⟩
  | .hbm, ⟨74, _⟩ => ⟨S16x3x199809, .f32⟩
  | .hbm, ⟨75, _⟩ => ⟨S48, .i32⟩
  | .hbm, ⟨76, _⟩ => ⟨S48x1, .i32⟩
  | .hbm, ⟨77, _⟩ => ⟨S_, .f32⟩
  | .hbm, ⟨78, _⟩ => ⟨S48x32, .f32⟩
  | .hbm, ⟨79, _⟩ => ⟨S48x199809, .i32⟩
  | .hbm, ⟨80, _⟩ => ⟨S48x199809, .f32⟩
  | .hbm, ⟨81, _⟩ => ⟨S_, .i32⟩
  | .hbm, ⟨82, _⟩ => ⟨S48x1, .i32⟩
  | .hbm, ⟨83, _⟩ => ⟨S48x1, .i1⟩
  | .hbm, ⟨84, _⟩ => ⟨S_, .i32⟩
  | .hbm, ⟨85, _⟩ => ⟨S48x1, .i32⟩
  | .hbm, ⟨86, _⟩ => ⟨S48x1, .i32⟩
  | .hbm, ⟨87, _⟩ => ⟨S48x1, .i32⟩
  | .hbm, ⟨88, _⟩ => ⟨S_, .i32⟩
  | .hbm, ⟨89, _⟩ => ⟨S48x199809, .i32⟩
  | .hbm, ⟨90, _⟩ => ⟨S48x199809, .i1⟩
  | .hbm, ⟨91, _⟩ => ⟨S_, .i32⟩
  | .hbm, ⟨92, _⟩ => ⟨S48x199809, .i32⟩
  | .hbm, ⟨93, _⟩ => ⟨S48x199809, .i32⟩
  | .hbm, ⟨94, _⟩ => ⟨S48x199809, .i32⟩
  | .hbm, ⟨95, _⟩ => ⟨S48x199809, .i32⟩
  | .hbm, ⟨96, _⟩ => ⟨S48x199809x1, .i32⟩
  | .hbm, ⟨97, _⟩ => ⟨S48x199809x1, .i32⟩
  | .hbm, ⟨98, _⟩ => ⟨S48x199809x2, .i32⟩
  | .hbm, ⟨99, _⟩ => ⟨S48x32, .f32⟩
  | .hbm, ⟨100, _⟩ => ⟨S_, .f32⟩
  | .hbm, ⟨101, _⟩ => ⟨S_, .f32⟩
  | .hbm, ⟨102, _⟩ => ⟨S48x32, .f32⟩
  | .hbm, ⟨103, _⟩ => ⟨S16x96, .f32⟩
  | _, _ => ⟨S16x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_cst_4 : Ref sig .tc := ⟨.hbm, 51, rfl⟩
abbrev main_v25 : Ref sig .tc := ⟨.hbm, 52, rfl⟩
abbrev main_v26 : Ref sig .tc := ⟨.hbm, 53, rfl⟩
abbrev main_cst_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c : Ref sig .tc := ⟨.hbm, 63, rfl⟩
abbrev main_v35 : Ref sig .tc := ⟨.hbm, 64, rfl⟩
abbrev main_c_6 : Ref sig .tc := ⟨.hbm, 65, rfl⟩
abbrev main_v36 : Ref sig .tc := ⟨.hbm, 66, rfl⟩
abbrev main_v37 : Ref sig .tc := ⟨.hbm, 67, rfl⟩
abbrev main_c_7 : Ref sig .tc := ⟨.hbm, 68, rfl⟩
abbrev main_v38 : Ref sig .tc := ⟨.hbm, 69, rfl⟩
abbrev main_v39 : Ref sig .tc := ⟨.hbm, 70, rfl⟩
abbrev main_cst_8 : Ref sig .tc := ⟨.hbm, 71, rfl⟩
abbrev main_call1_v0 : Ref sig .tc := ⟨.hbm, 72, rfl⟩
abbrev main_call1_v1 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_9 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_10 : Ref sig .tc := ⟨.hbm, 81, rfl⟩
abbrev main_v46 : Ref sig .tc := ⟨.hbm, 82, rfl⟩
abbrev main_v47 : Ref sig .tc := ⟨.hbm, 83, rfl⟩
abbrev main_c_11 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_12 : Ref sig .tc := ⟨.hbm, 88, rfl⟩
abbrev main_v51 : Ref sig .tc := ⟨.hbm, 89, rfl⟩
abbrev main_v52 : Ref sig .tc := ⟨.hbm, 90, rfl⟩
abbrev main_c_13 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_call2_call0_cst : Ref sig .tc := ⟨.hbm, 100, rfl⟩
abbrev main_call2_call0_v0 : Ref sig .tc := ⟨.hbm, 101, rfl⟩
abbrev main_v61 : Ref sig .tc := ⟨.hbm, 102, rfl⟩
abbrev main_v62 : Ref sig .tc := ⟨.hbm, 103, rfl⟩

abbrev nD : Nat := 1
abbrev τ : Topo := Topo.v7x

variable {F : FTy → Type} [FloatOps F]
-- ==== Proof.Chi.lean ====
/-
  The signed count of the cells of an image at most a threshold, over the image's flat pixel numbers: each pixel
  counts itself, minus the edge to its right neighbour, minus the edge to the pixel below, plus the square of the
  four; a cell that would cross the image's border is left out.  No program in this module.
-/
module

public import Mathlib.Data.EReal.Operations
public import Mathlib.Algebra.BigOperators.Fin
public import Mathlib.Algebra.BigOperators.Intervals

@[expose] public section

noncomputable section

namespace Cert.Chi

open Classical

/-- One when `v` is at most `t`, zero otherwise. -/
def le (v t : EReal) : ℝ := if v ≤ t then 1 else 0

/-- Pixel `p`'s edge to its right neighbour. -/
def edgeH (a : ℕ → EReal) (p : ℕ) : EReal := max (a p) (a (p + 1))
/-- Pixel `p`'s edge to the pixel below. -/
def edgeV (a : ℕ → EReal) (p : ℕ) : EReal := max (a p) (a (p + 224))
/-- The square whose first corner is pixel `p`. -/
def square (a : ℕ → EReal) (p : ℕ) : EReal := max (edgeH a p) (edgeH a (p + 224))

/-- Pixel `p`'s share of the count. -/
def cell (a : ℕ → EReal) (t : EReal) (p : ℕ) : ℝ :=
  (le (a p) t + if p % 224 < 223 ∧ p < 49952 then le (square a p) t else 0)
    - ((if p % 224 < 223 then le (edgeH a p) t else 0) + if p < 49952 then le (edgeV a p) t else 0)

/-- The signed count of the image's cells at most `t`. -/
def chi (a : ℕ → EReal) (t : EReal) : ℝ := ∑ p ∈ Finset.range 50176, cell a t p

/-- A sum over rows and columns as one over flat numbers. -/
theorem sum_grid {M : Type} [AddCommMonoid M] (R C : ℕ) (G : ℕ → M) :
    ∑ r ∈ Finset.range R, ∑ c ∈ Finset.range C, G (C * r + c) = ∑ p ∈ Finset.range (C * R), G p := by
  induction R with
  | zero => simp
  | succ R ih => rw [Finset.sum_range_succ, ih, Nat.mul_succ, Finset.sum_range_add]

theorem sum_lanes {M : Type} [AddCommMonoid M] (G : ℕ → M) :
    ∑ l : Fin 128, ∑ r : Fin 392, G (128 * r.val + l.val) = ∑ p ∈ Finset.range 50176, G p := by
  rw [Finset.sum_comm, ← sum_grid 392 128 G, Finset.sum_range]
  exact Finset.sum_congr rfl fun r _ => (Finset.sum_range fun c => G (128 * r.val + c)).symm

theorem coe_sum {ι : Type} (s : Finset ι) (f : ι → ℝ) : ((∑ i ∈ s, f i : ℝ) : EReal) = ∑ i ∈ s, (f i : EReal) := by
  induction s using Finset.cons_induction with
  | empty => simp
  | cons i s h ih => rw [Finset.sum_cons, Finset.sum_cons, EReal.coe_add, ih]

end Cert.Chi

end
-- ==== Proof.Cells.lean ====
/-
  The four kinds of cells laid end to end: the sum over all of them of a cell's sign where its value is at most a
  threshold is the signed count of the image. And a value's bin, the number of thresholds below it: a bin is at most `k`
  exactly when the value is at most threshold `k`.
-/
module

public import proofs.«01_k».proof.Proof.Chi

@[expose] public section

noncomputable section

namespace Cert.Chi

open Classical

/-- Where the first corner of edge or square `q` lies, in a layout of 223 to a row. -/
def corner (q : ℕ) : ℕ := 224 * (q / 223) + q % 223

/-- The value of cell `n`: pixels, horizontal edges, vertical edges, squares. -/
def value (a : ℕ → EReal) (n : ℕ) : EReal :=
  if n < 50176 then a n
  else if n < 100128 then edgeH a (corner (n - 50176))
  else if n < 150080 then edgeV a (n - 100128)
  else square a (corner (n - 150080))

/-- The sign of cell `n`. -/
def sign (n : ℕ) : ℝ := if n < 50176 then 1 else if n < 150080 then -1 else 1

/-- A sum over cells laid 223 to a row is the sum over the pixels that are not in the last column. -/
theorem sum_corner (R : ℕ) (f : ℕ → ℝ) :
    ∑ q ∈ Finset.range (223 * R), f (corner q) = ∑ p ∈ Finset.range (224 * R), if p % 224 < 223 then f p else 0 := by
  rw [← sum_grid R 223 fun q => f (corner q), ← sum_grid R 224 fun p => if p % 224 < 223 then f p else 0]
  refine Finset.sum_congr rfl fun r _ => ?_
  rw [Finset.sum_range_succ _ 223, if_neg (by omega), add_zero]
  refine Finset.sum_congr rfl fun c hc => ?_
  have hc := Finset.mem_range.mp hc
  rw [if_pos (by omega)]
  refine congrArg f ?_
  unfold corner
  rw [show (223 * r + c) / 223 = r by omega, show (223 * r + c) % 223 = c by omega]

/-- A sum over the first `A` numbers as one over the first `A + B`. -/
theorem sum_first (A B : ℕ) (f : ℕ → ℝ) :
    ∑ p ∈ Finset.range A, f p = ∑ p ∈ Finset.range (A + B), if p < A then f p else 0 := by
  rw [Finset.sum_range_add]
  rw [Finset.sum_eq_zero (s := Finset.range B) fun x _ => if_neg (by omega), add_zero]
  exact Finset.sum_congr rfl fun p hp => (if_pos (Finset.mem_range.mp hp)).symm

/-- The cells' signed count is the image's. -/
theorem sum_cells (a : ℕ → EReal) (t : EReal) :
    ∑ n ∈ Finset.range 199809, (if value a n ≤ t then sign n else 0) = chi a t := by
  have e : ∀ n, (if value a n ≤ t then sign n else 0) = sign n * le (value a n) t := by
    intro n; unfold le; split <;> simp
  rw [Finset.sum_congr rfl fun n _ => e n]
  rw [show 199809 = 50176 + 49952 + 49952 + 49729 by omega, Finset.sum_range_add, Finset.sum_range_add, Finset.sum_range_add]
  have s1 : ∑ n ∈ Finset.range 50176, sign n * le (value a n) t = ∑ p ∈ Finset.range 50176, le (a p) t := by
    refine Finset.sum_congr rfl fun p hp => ?_
    have hp := Finset.mem_range.mp hp
    simp only [sign, value, if_pos hp, one_mul]
  have s2 : ∑ q ∈ Finset.range 49952, sign (50176 + q) * le (value a (50176 + q)) t
      = -∑ p ∈ Finset.range 50176, if p % 224 < 223 then le (edgeH a p) t else 0 := by
    rw [← sum_corner 224 fun p => le (edgeH a p) t, ← Finset.sum_neg_distrib]
    refine Finset.sum_congr rfl fun q hq => ?_
    have hq := Finset.mem_range.mp hq
    simp only [sign, value, if_neg (show ¬ 50176 + q < 50176 by omega), if_pos (show 50176 + q < 150080 by omega),
      if_pos (show 50176 + q < 100128 by omega), Nat.add_sub_cancel_left, neg_mul, one_mul]
  have s3 : ∑ q ∈ Finset.range 49952, sign (50176 + 49952 + q) * le (value a (50176 + 49952 + q)) t
      = -∑ p ∈ Finset.range 50176, if p < 49952 then le (edgeV a p) t else 0 := by
    rw [← sum_first 49952 224 fun p => le (edgeV a p) t, ← Finset.sum_neg_distrib]
    refine Finset.sum_congr rfl fun q hq => ?_
    have hq := Finset.mem_range.mp hq
    simp only [sign, value, if_neg (show ¬ 50176 + 49952 + q < 50176 by omega), if_pos (show 50176 + 49952 + q < 150080 by omega),
      if_neg (show ¬ 50176 + 49952 + q < 100128 by omega), show 50176 + 49952 + q - 100128 = q by omega, neg_mul, one_mul]
  have s4 : ∑ q ∈ Finset.range 49729, sign (50176 + 49952 + 49952 + q) * le (value a (50176 + 49952 + 49952 + q)) t
      = ∑ p ∈ Finset.range 50176, if p % 224 < 223 ∧ p < 49952 then le (square a p) t else 0 := by
    have h := sum_first 49952 224 fun p => if p % 224 < 223 then le (square a p) t else 0
    rw [← sum_corner 223 fun p => le (square a p) t] at h
    refine Eq.trans (Eq.trans ?_ h) ?_
    · refine Finset.sum_congr rfl fun q hq => ?_
      have hq := Finset.mem_range.mp hq
      simp only [sign, value, if_neg (show ¬ 50176 + 49952 + 49952 + q < 50176 by omega), if_neg (show ¬ 50176 + 49952 + 49952 + q < 150080 by omega),
        if_neg (show ¬ 50176 + 49952 + 49952 + q < 100128 by omega), show 50176 + 49952 + 49952 + q - 150080 = q by omega, one_mul]
    · refine Finset.sum_congr rfl fun p _ => ?_
      by_cases h1 : p < 49952 <;> by_cases h2 : p % 224 < 223 <;> simp [h1, h2]
  rw [s1, s2, s3, s4, ← sub_eq_add_neg, ← sub_eq_add_neg, chi]
  unfold cell
  rw [Finset.sum_sub_distrib, Finset.sum_add_distrib, Finset.sum_add_distrib]
  ring

/-- The number of the thirty-two thresholds below `v`. -/
def bin (T : ℕ → EReal) (v : EReal) : ℕ := ((Finset.range 32).filter fun k => T k < v).card

theorem bin_le (T : ℕ → EReal) (hT : StrictMono T) (v : EReal) (k : ℕ) (hk : k < 32) : bin T v ≤ k ↔ v ≤ T k := by
  constructor
  · intro h
    by_contra hv
    rw [not_le] at hv
    have : Finset.range (k + 1) ⊆ (Finset.range 32).filter fun k => T k < v := fun j hj => by
      have hj := Finset.mem_range.mp hj
      exact Finset.mem_filter.mpr ⟨Finset.mem_range.mpr (by omega), lt_of_le_of_lt (hT.monotone (by omega)) hv⟩
    have := Finset.card_le_card this
    rw [Finset.card_range] at this
    unfold bin at h
    omega
  · intro h
    have : (Finset.range 32).filter (fun k => T k < v) ⊆ Finset.range k := fun j hj => by
      have hj := (Finset.mem_filter.mp hj).2
      exact Finset.mem_range.mpr (hT.lt_iff_lt.mp (lt_of_lt_of_le hj h))
    have := Finset.card_le_card this
    rwa [Finset.card_range] at this

theorem bin_lt (T : ℕ → EReal) (v : EReal) : bin T v < 33 :=
  Nat.lt_succ_of_le ((Finset.card_filter_le _ _).trans (by rw [Finset.card_range]))

/-- Up to bin `k`, what the histogram adds of a cell is the cell's sign where its value is at most threshold `k`. -/
theorem sum_bins (T : ℕ → EReal) (hT : StrictMono T) (v : EReal) (s : EReal) (k : ℕ) (hk : k < 32) :
    ∑ j ∈ Finset.range (k + 1), (if min (bin T v) 31 = j then (if bin T v < 32 then s else 0) else 0)
      = if v ≤ T k then s else 0 := by
  rw [Finset.sum_ite_eq]
  have hb := bin_le T hT v k hk
  by_cases h : v ≤ T k
  · have := hb.mpr h
    rw [if_pos h, if_pos (Finset.mem_range.mpr (by omega)), if_pos (by omega)]
  · have : ¬ bin T v ≤ k := fun q => h (hb.mp q)
    rw [if_neg h]
    split
    · next q => rw [if_neg]; have := Finset.mem_range.mp q; omega
    · rfl

end Cert.Chi

end
-- ==== Proof.Body.lean ====
/-
  What the kernel's body stores at one point, written once: the counts of the four images of a block,
  every threshold's row spelt by one function.  The run's found piece is shown to be this term.
-/
module

public import proofs.«01_k».proof.Proof.Gen.KernelIdeal.Frame
public import Idealize.ShloMosaic.Lib.Pipeline.Value

@[expose] public section

set_option maxRecDepth 16384

noncomputable section

namespace Cert.KernelIdeal.Ecc

open Idealize.ShloMosaic Idealize.ShloMosaic.TcCoe Idealize.SL.Sem
open Cert.KernelIdeal Cert.KernelIdeal.Gen

variable {F : FTy → Type} [FloatOps F]

/-- One where an element is at most the threshold, zero elsewhere. -/
def le01 (x : FVec F S392x128 .f32) (t : F .f32) : FVec F S392x128 .f32 :=
  select (cmpf .ole x (broadcast S392x128 t)) (broadcast S392x128 (Scalar.ofBits .f32 0x3F800000#32))
    (broadcast S392x128 (Scalar.ofBits .f32 0x00000000#32))

/-- The signed count of an image's cells at most the threshold, lane by lane. -/
def row (xi hi vi si : FVec F S392x128 .f32) (t : F .f32) : FVec F S1x128 .f32 :=
  shapeCast S1x128 (multiReduction .add [0] S128 (subf (addf (le01 xi t) (le01 si t)) (addf (le01 hi t) (le01 vi t)))
    0x00000000#32 reduces_S392x128_S128 (.inl rfl) rfl) shapeCasts_S128_S1x128

/-- The 32 thresholds' lane counts, one row each. -/
def lanes (xi hi vi si : FVec F S392x128 .f32) (t : Fin 32 → F .f32) : FVec F S32x128 .f32 :=
  concatenate S32x128 0 [⟨S1x128, row xi hi vi si (t 0)⟩, ⟨S1x128, row xi hi vi si (t 1)⟩, ⟨S1x128, row xi hi vi si (t 2)⟩, ⟨S1x128, row xi hi vi si (t 3)⟩, ⟨S1x128, row xi hi vi si (t 4)⟩, ⟨S1x128, row xi hi vi si (t 5)⟩, ⟨S1x128, row xi hi vi si (t 6)⟩, ⟨S1x128, row xi hi vi si (t 7)⟩, ⟨S1x128, row xi hi vi si (t 8)⟩, ⟨S1x128, row xi hi vi si (t 9)⟩, ⟨S1x128, row xi hi vi si (t 10)⟩, ⟨S1x128, row xi hi vi si (t 11)⟩, ⟨S1x128, row xi hi vi si (t 12)⟩, ⟨S1x128, row xi hi vi si (t 13)⟩, ⟨S1x128, row xi hi vi si (t 14)⟩, ⟨S1x128, row xi hi vi si (t 15)⟩, ⟨S1x128, row xi hi vi si (t 16)⟩, ⟨S1x128, row xi hi vi si (t 17)⟩, ⟨S1x128, row xi hi vi si (t 18)⟩, ⟨S1x128, row xi hi vi si (t 19)⟩, ⟨S1x128, row xi hi vi si (t 20)⟩, ⟨S1x128, row xi hi vi si (t 21)⟩, ⟨S1x128, row xi hi vi si (t 22)⟩, ⟨S1x128, row xi hi vi si (t 23)⟩, ⟨S1x128, row xi hi vi si (t 24)⟩, ⟨S1x128, row xi hi vi si (t 25)⟩, ⟨S1x128, row xi hi vi si (t 26)⟩, ⟨S1x128, row xi hi vi si (t 27)⟩, ⟨S1x128, row xi hi vi si (t 28)⟩, ⟨S1x128, row xi hi vi si (t 29)⟩, ⟨S1x128, row xi hi vi si (t 30)⟩, ⟨S1x128, row xi hi vi si (t 31)⟩]
    concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0

/-- The 32 thresholds' counts of an image. -/
def counts (xi hi vi si : FVec F S392x128 .f32) (t : Fin 32 → F .f32) : FVec F S32x1 .f32 :=
  shapeCast S32x1 (multiReduction .add [1] S32 (lanes xi hi vi si t) 0x00000000#32 reduces_S32x128_S32 (.inl rfl) rfl)
    shapeCasts_S32_S32x1

/-- The four images' counts from the block's pixels, horizontal edges, vertical edges and squares. -/
def block (x h v s : FVec F S1568x128 .f32) (t : Fin 32 → F .f32) : FVec F S1x4x32x1 .f32 :=
  shapeCast S1x4x32x1 (concatenate S4x32x1 0 [
      ⟨S1x32x1, shapeCast S1x32x1 (counts (extractStridedSlice S392x128 ![0, 0] x slices_S1568x128_o0_0_S392x128) (extractStridedSlice S392x128 ![0, 0] h slices_S1568x128_o0_0_S392x128) (extractStridedSlice S392x128 ![0, 0] v slices_S1568x128_o0_0_S392x128) (extractStridedSlice S392x128 ![0, 0] s slices_S1568x128_o0_0_S392x128) t) shapeCasts_S32x1_S1x32x1⟩,
      ⟨S1x32x1, shapeCast S1x32x1 (counts (extractStridedSlice S392x128 ![392, 0] x slices_S1568x128_o392_0_S392x128) (extractStridedSlice S392x128 ![392, 0] h slices_S1568x128_o392_0_S392x128) (extractStridedSlice S392x128 ![392, 0] v slices_S1568x128_o392_0_S392x128) (extractStridedSlice S392x128 ![392, 0] s slices_S1568x128_o392_0_S392x128) t) shapeCasts_S32x1_S1x32x1⟩,
      ⟨S1x32x1, shapeCast S1x32x1 (counts (extractStridedSlice S392x128 ![784, 0] x slices_S1568x128_o784_0_S392x128) (extractStridedSlice S392x128 ![784, 0] h slices_S1568x128_o784_0_S392x128) (extractStridedSlice S392x128 ![784, 0] v slices_S1568x128_o784_0_S392x128) (extractStridedSlice S392x128 ![784, 0] s slices_S1568x128_o784_0_S392x128) t) shapeCasts_S32x1_S1x32x1⟩,
      ⟨S1x32x1, shapeCast S1x32x1 (counts (extractStridedSlice S392x128 ![1176, 0] x slices_S1568x128_o1176_0_S392x128) (extractStridedSlice S392x128 ![1176, 0] h slices_S1568x128_o1176_0_S392x128) (extractStridedSlice S392x128 ![1176, 0] v slices_S1568x128_o1176_0_S392x128) (extractStridedSlice S392x128 ![1176, 0] s slices_S1568x128_o1176_0_S392x128) t) shapeCasts_S32x1_S1x32x1⟩]
    concatenates_S1x32x1_S1x32x1_S1x32x1_S1x32x1_S4x32x1_d0) shapeCasts_S4x32x1_S1x4x32x1

theorem inb_thr (k : Fin 32) : ∀ a, (![0, k.val] : Fin 2 → Nat) a + S1x1.size a ≤ S1x32.size a := fun a => match a with
  | ⟨0, _⟩ => Nat.le_refl 1
  | ⟨1, _⟩ => k.isLt

/-- The threshold that the body loads for row `k`. -/
def thr (x0 : Vec F S1x32 .f32) (k : Fin 32) : F .f32 :=
  View.ld x0 (Rect.unit (s := S1x32) ![0, k.val] S1x1.size (inb_thr k)) (Shape.Idx.first (s := S1x1) (by decide))

/-- The body's result as a function of the thresholds, the two border arrays and the block of pixels. -/
def body (x0 : Vec F S1x32 .f32) (x1 x2 : Vec F S1568x128 .f32) (x3 : Vec F S1x1568x128 .f32) : FVec F S1x4x32x1 .f32 :=
  block (k0_pay4 x3) (k0_pay7 x3 x1) (k0_pay8 x3 x2) (k0_pay9 x3 x1 x2) (thr x0)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (m : (ℓ : Loc nD τ sig) → Buf (Elt F) ℓ)

theorem outsAt_eq (c : Dev nD) (t : Fin cfg0.N) :
    outsAt0 m c t = body (iblk m c 0 t) (iblk m c 1 t) (iblk m c 2 t) (iblk m c 3 t) := by
  unfold outsAt0 out0_A_4
  rw [View.read_writes_eq_canon _ _ _ (cover0_A_4 c _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [View.canon_unit_zero hz4]
  simp only [View.ld_unit_zero (S := S1568x128) hz2, View.ld_unit_zero (S := S1x1568x128) hz3]
  rfl

end Cert.KernelIdeal.Ecc

end
-- ==== Proof.Rolled.lean ====
/-
  The body's four arrays read at a flat pixel number: pixel `128 r + l` of a block lies in row `r`, lane `l`; a
  rolled array is the array read one pixel, or one image row, further on, around the block's end.
-/
module

public import proofs.«01_k».proof.Proof.Body
public import Idealize.ShloMosaic.Lib.Pointwise

@[expose] public section

set_option maxRecDepth 16384

noncomputable section

namespace Cert.KernelIdeal.Ecc

open Idealize.ShloMosaic Idealize.ShloMosaic.TcCoe Idealize.SL.Sem
open Cert.KernelIdeal Cert.KernelIdeal.Gen

variable (X B C : ℕ → EReal)
variable (x0 : Vec Ideal S1x1568x128 .f32) (hX : ∀ (r : Fin 1568) (l : Fin 128), x0 (ix3 0 r l) = X (128 * r.val + l.val))
variable (b : Vec Ideal S1568x128 .f32) (hB : ∀ (r : Fin 1568) (l : Fin 128), b (ix2 r l) = B (128 * r.val + l.val))
variable (c : Vec Ideal S1568x128 .f32) (hC : ∀ (r : Fin 1568) (l : Fin 128), c (ix2 r l) = C (128 * r.val + l.val))

/-- The horizontal edge's value at flat pixel `f`. -/
def hval (f : ℕ) : EReal := max (X f) (X ((f + 1) % 200704)) + B f
/-- The vertical edge's value at flat pixel `f`. -/
def vval (f : ℕ) : EReal := max (X f) (X ((f + 224) % 200704)) + C f
/-- The square's value at flat pixel `f`. -/
def sval (f : ℕ) : EReal := max (hval X B f) (hval X B ((f + 224) % 200704)) + C f

include hX
theorem pay4_apply (r : Fin 1568) (l : Fin 128) : k0_pay4 x0 (ix2 r l) = X (128 * r.val + l.val) := by
  rw [← hX]
  pointwise [k0_pay4]

theorem pay6_apply (r : Fin 1568) (l : Fin 128) : k0_pay6 x0 (ix2 r l) = X ((128 * r.val + l.val + 128) % 200704) := by
  unfold k0_pay6
  have h4 := pay4_apply X x0 hX
  generalize k0_pay4 x0 = y at h4
  pointwise
  split
  · rw [h4]; exact congrArg X (by dsimp only; omega)
  · rw [h4]; exact congrArg X (by dsimp only; omega)

include hB
theorem pay7_apply (r : Fin 1568) (l : Fin 128) : k0_pay7 x0 b (ix2 r l) = hval X B (128 * r.val + l.val) := by
  unfold k0_pay7
  have h4 := pay4_apply X x0 hX
  have h6 := pay6_apply X x0 hX
  generalize k0_pay4 x0 = y at h4
  generalize k0_pay6 x0 = z at h6
  pointwise
  have e : (if h : l.val < 127 then y (ix2 r ⟨1 + l.val, by omega⟩) else z (ix2 r ⟨l.val - 127, by omega⟩))
      = X ((128 * r.val + l.val + 1) % 200704) := by
    split
    · rw [h4]; exact congrArg X (by dsimp only; omega)
    · rw [h6]; exact congrArg X (by dsimp only; omega)
  rw [e, h4, hB, hval]

omit hB in
include hC in
theorem pay8_apply (r : Fin 1568) (l : Fin 128) : k0_pay8 x0 c (ix2 r l) = vval X C (128 * r.val + l.val) := by
  unfold k0_pay8 k0_pay5
  have h4 := pay4_apply X x0 hX
  have h6 := pay6_apply X x0 hX
  generalize k0_pay4 x0 = y at h4
  generalize k0_pay6 x0 = z at h6
  pointwise
  rw [h4, hC, vval]
  refine congrArg (· + C _) (congrArg (max (X _)) ?_)
  split
  · rw [h6]; exact congrArg X (by dsimp only; omega)
  · split
    · rw [h4]; exact congrArg X (by dsimp only; omega)
    · rw [h4]; exact congrArg X (by dsimp only; omega)

include hC in
theorem pay9_apply (r : Fin 1568) (l : Fin 128) : k0_pay9 x0 b c (ix2 r l) = sval X B C (128 * r.val + l.val) := by
  unfold k0_pay9 k0_pay5
  have h4 := pay7_apply X B x0 hX b hB
  generalize k0_pay7 x0 b = y at h4
  pointwise
  rw [h4, hC, sval]
  refine congrArg (· + C _) (congrArg (max (hval X B _)) ?_)
  split
  · split
    · rw [h4]; exact congrArg (hval X B) (by dsimp only; omega)
    · rw [h4]; exact congrArg (hval X B) (by dsimp only; omega)
  · split
    · rw [h4]; exact congrArg (hval X B) (by dsimp only; omega)
    · rw [h4]; exact congrArg (hval X B) (by dsimp only; omega)

end Cert.KernelIdeal.Ecc

end
-- ==== Proof.Counted.lean ====
/-
  The body's counts read at an index: the sum over the image's pixels of the signed indicator of its cells.
-/
module

public import proofs.«01_k».proof.Proof.Body
public import Idealize.ShloMosaic.Lib.Pointwise

@[expose] public section

set_option maxRecDepth 16384

noncomputable section

namespace Cert.KernelIdeal.Ecc

open Idealize.ShloMosaic Idealize.ShloMosaic.TcCoe Idealize.SL.Sem
open Cert.KernelIdeal Cert.KernelIdeal.Gen

/-- One when the element is at most the threshold, zero otherwise. -/
def ind (v t : EReal) : EReal := Scalar.select (Ideal.cmp .ole v t) 1 0

theorem le01_apply (x : FVec Ideal S392x128 .f32) (t : EReal) (i : S392x128.Idx) : le01 (F := Ideal) x t i = ind (x i) t := by
  unfold le01 ind
  pointwise

theorem row_apply (xi hi vi si : FVec Ideal S392x128 .f32) (t : EReal) (l : Fin 128) :
    row (F := Ideal) xi hi vi si t (ix2 0 l)
      = ∑ r : Fin 392, ((ind (xi (ix2 r l)) t + ind (si (ix2 r l)) t) - (ind (hi (ix2 r l)) t + ind (vi (ix2 r l)) t)) := by
  simp only [← le01_apply]
  unfold row
  pointwise

theorem lanes_eq (xi hi vi si : FVec Ideal S392x128 .f32) (t : Fin 32 → EReal)
    (h : Shape.Concatenates ((List.ofFn fun k : Fin 32 => (⟨S1x128, row (F := Ideal) xi hi vi si (t k)⟩ : (s : Shape) × (s.Idx → EReal))).map (·.1)) S32x128 0) :
    lanes (F := Ideal) xi hi vi si t
      = concatenate S32x128 0 (List.ofFn fun k : Fin 32 => (⟨S1x128, row (F := Ideal) xi hi vi si (t k)⟩ : (s : Shape) × (s.Idx → EReal))) h := by
  unfold lanes
  generalize row (F := Ideal) xi hi vi si = R
  rfl

theorem lanes_apply (xi hi vi si : FVec Ideal S392x128 .f32) (t : Fin 32 → EReal) (k : Fin 32) (l : Fin 128) :
    lanes (F := Ideal) xi hi vi si t (ix2 k l) = row (F := Ideal) xi hi vi si (t k) (ix2 0 l) := by
  rw [lanes_eq xi hi vi si t (by
    rw [List.map_ofFn]
    exact concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0)]
  generalize row (F := Ideal) xi hi vi si = R
  pointwise

theorem counts_apply (xi hi vi si : FVec Ideal S392x128 .f32) (t : Fin 32 → EReal) (k : Fin 32) :
    counts (F := Ideal) xi hi vi si t (ix2 k 0)
      = ∑ l : Fin 128, ∑ r : Fin 392, ((ind (xi (ix2 r l)) (t k) + ind (si (ix2 r l)) (t k))
          - (ind (hi (ix2 r l)) (t k) + ind (vi (ix2 r l)) (t k))) := by
  unfold counts
  pointwise
  simp only [lanes_apply, row_apply]

theorem block_apply (x h v s : FVec Ideal S1568x128 .f32) (t : Fin 32 → EReal) (i : Fin 4) (k : Fin 32) :
    block (F := Ideal) x h v s t (ix4 0 i k 0)
      = ∑ l : Fin 128, ∑ r : Fin 392, ((ind (x (ix2 ⟨392 * i.val + r.val, by omega⟩ l)) (t k) + ind (s (ix2 ⟨392 * i.val + r.val, by omega⟩ l)) (t k))
          - (ind (h (ix2 ⟨392 * i.val + r.val, by omega⟩ l)) (t k) + ind (v (ix2 ⟨392 * i.val + r.val, by omega⟩ l)) (t k))) := by
  unfold block
  pointwise
  simp only [counts_apply]
  pointwise
  fin_vals i with hi
  all_goals simp only [hi, Nat.reduceSub, Nat.reduceLT, ↓reduceDIte, Nat.reduceMul, Nat.zero_add]

end Cert.KernelIdeal.Ecc

end
-- ==== Proof.Count.lean ====
/-
  The body's count of an image is the signed count of its cells: at the border the added infinity leaves an edge or
  a square out, and inside the image no rolled read crosses into the next one.
-/
module

public import proofs.«01_k».proof.Proof.Rolled
public import proofs.«01_k».proof.Proof.Counted
public import proofs.«01_k».proof.Proof.Chi

@[expose] public section

set_option maxRecDepth 16384

noncomputable section

namespace Cert.KernelIdeal.Ecc

open Idealize.ShloMosaic Idealize.ShloMosaic.TcCoe Idealize.SL.Sem
open Cert.KernelIdeal Cert.KernelIdeal.Gen Cert.Chi

theorem ind_eq (v t : EReal) : ind v t = ((le v t : ℝ) : EReal) := by
  unfold ind le Scalar.select Ideal.cmp
  by_cases h : v ≤ t <;> simp [h]

/-- What is added to a horizontal edge at flat pixel `f` of a block: infinity in the last column. -/
def biasR (f : ℕ) : EReal := if f % 50176 % 224 = 223 then ⊤ else 0
/-- What is added to a vertical edge at flat pixel `f` of a block: infinity in the last image row. -/
def biasB (f : ℕ) : EReal := if 49952 ≤ f % 50176 then ⊤ else 0

theorem add_top' {v : EReal} (h : ⊥ < v) : v + ⊤ = ⊤ := EReal.add_top_of_ne_bot (ne_of_gt h)

theorem le_top_real {v : EReal} (h : v = ⊤) (τ : ℝ) : le v (τ : EReal) = 0 := by
  subst h; simp [le]

variable (X : ℕ → EReal) (hX : ∀ f, ⊥ < X f) (i : ℕ) (hi : i < 4) (p : ℕ) (hp : p < 50176) (τ : ℝ)

/-- Image `i`'s pixels in a block. -/
def image (p : ℕ) : EReal := X (50176 * i + p)

include hi hp

theorem hval_in (h : p % 224 < 223) : hval X biasR (50176 * i + p) = edgeH (image X i) p := by
  have e : (50176 * i + p + 1) % 200704 = 50176 * i + (p + 1) := by omega
  have n : ¬ (50176 * i + p) % 50176 % 224 = 223 := by omega
  simp only [hval, biasR, edgeH, image, e, if_neg n, add_zero]

include hX in
theorem hval_out (h : ¬ p % 224 < 223) : hval X biasR (50176 * i + p) = ⊤ := by
  have n : (50176 * i + p) % 50176 % 224 = 223 := by omega
  simp only [hval, biasR, if_pos n]
  exact add_top' (lt_max_of_lt_left (hX _))

include hX in
theorem hval_bot : ⊥ < hval X biasR (50176 * i + p) := by
  by_cases h : p % 224 < 223
  · rw [hval_in X i hi p hp h]; exact lt_max_of_lt_left (hX _)
  · rw [hval_out X hX i hi p hp h]; exact bot_lt_top

theorem vval_in (h : p < 49952) : vval X biasB (50176 * i + p) = edgeV (image X i) p := by
  have e : (50176 * i + p + 224) % 200704 = 50176 * i + (p + 224) := by omega
  have n : ¬ 49952 ≤ (50176 * i + p) % 50176 := by omega
  simp only [vval, biasB, edgeV, image, e, if_neg n, add_zero]

include hX in
theorem vval_out (h : ¬ p < 49952) : vval X biasB (50176 * i + p) = ⊤ := by
  have n : 49952 ≤ (50176 * i + p) % 50176 := by omega
  simp only [vval, biasB, if_pos n]
  exact add_top' (lt_max_of_lt_left (hX _))

theorem sval_in (h : p % 224 < 223) (h' : p < 49952) : sval X biasR biasB (50176 * i + p) = square (image X i) p := by
  have e : (50176 * i + p + 224) % 200704 = 50176 * i + (p + 224) := by omega
  have n : ¬ 49952 ≤ (50176 * i + p) % 50176 := by omega
  unfold sval
  rw [e, hval_in X i hi p hp h, hval_in X i hi (p + 224) (by omega) (by omega)]
  simp only [biasB, if_neg n, add_zero, square]

include hX in
theorem sval_out (h : ¬ (p % 224 < 223 ∧ p < 49952)) : sval X biasR biasB (50176 * i + p) = ⊤ := by
  unfold sval
  by_cases h' : p < 49952
  · have n : ¬ 49952 ≤ (50176 * i + p) % 50176 := by omega
    rw [hval_out X hX i hi p hp (by omega)]
    simp only [biasB, if_neg n, add_zero]
    exact max_eq_left le_top
  · have n : 49952 ≤ (50176 * i + p) % 50176 := by omega
    simp only [biasB, if_pos n]
    exact add_top' (lt_max_of_lt_left (hval_bot X hX i hi p hp))

include hX in
/-- One pixel's term of the body's sum is the pixel's share of the count. -/
theorem term_eq : (ind (X (50176 * i + p)) τ + ind (sval X biasR biasB (50176 * i + p)) τ)
      - (ind (hval X biasR (50176 * i + p)) τ + ind (vval X biasB (50176 * i + p)) τ)
      = ((cell (image X i) τ p : ℝ) : EReal) := by
  have es : le (sval X biasR biasB (50176 * i + p)) τ
      = if p % 224 < 223 ∧ p < 49952 then le (square (image X i) p) τ else 0 := by
    split
    · next h => rw [sval_in X i hi p hp h.1 h.2]
    · next h => exact le_top_real (sval_out X hX i hi p hp h) τ
  have eh : le (hval X biasR (50176 * i + p)) τ = if p % 224 < 223 then le (edgeH (image X i) p) τ else 0 := by
    split
    · next h => rw [hval_in X i hi p hp h]
    · next h => exact le_top_real (hval_out X hX i hi p hp h) τ
  have ev : le (vval X biasB (50176 * i + p)) τ = if p < 49952 then le (edgeV (image X i) p) τ else 0 := by
    split
    · next h => rw [vval_in X i hi p hp h]
    · next h => exact le_top_real (vval_out X hX i hi p hp h) τ
  rw [ind_eq, ind_eq, ind_eq, ind_eq, es, eh, ev, ← EReal.coe_add, ← EReal.coe_add, ← EReal.coe_sub]
  rfl

omit hi hp in
include hX in
/-- The body's count of image `i` at threshold `k`. -/
theorem body_apply (x0 : Vec Ideal S1x32 .f32) (x1 x2 : Vec Ideal S1568x128 .f32) (x3 : Vec Ideal S1x1568x128 .f32)
    (h3 : ∀ (r : Fin 1568) (l : Fin 128), x3 (ix3 0 r l) = X (128 * r.val + l.val))
    (h1 : ∀ (r : Fin 1568) (l : Fin 128), x1 (ix2 r l) = biasR (128 * r.val + l.val))
    (h2 : ∀ (r : Fin 1568) (l : Fin 128), x2 (ix2 r l) = biasB (128 * r.val + l.val))
    (i : Fin 4) (k : Fin 32) (h0 : x0 (ix2 0 k) = (τ : EReal)) :
    body x0 x1 x2 x3 (ix4 0 i k 0) = ((chi (image X i.val) τ : ℝ) : EReal) := by
  have ht : thr x0 k = (τ : EReal) := by
    unfold thr
    rw [← h0]
    pointwise
  unfold body
  rw [block_apply, ht]
  simp only [pay4_apply X x3 h3, pay7_apply X biasR x3 h3 x1 h1, pay8_apply X biasB x3 h3 x2 h2,
    pay9_apply X biasR biasB x3 h3 x1 h1 x2 h2]
  have e : ∀ (r : Fin 392) (l : Fin 128), 128 * (392 * i.val + r.val) + l.val = 50176 * i.val + (128 * r.val + l.val) :=
    fun r l => by omega
  simp only [e]
  rw [chi, coe_sum, ← sum_lanes fun p => ((cell (image X i.val) τ p : ℝ) : EReal)]
  exact Finset.sum_congr rfl fun l _ => Finset.sum_congr rfl fun r _ => term_eq X hX i.val i.isLt _ (by omega) τ

end Cert.KernelIdeal.Ecc

end
-- ==== Proof.Entry.lean ====
/-
  What the host lines before the kernel leave in its operands: the images' pixels in blocks of four, the thresholds,
  and the two arrays that put infinity on the last column and on the last row of an image.
-/
module

public import proofs.«01_k».proof.Proof.Count
public import Idealize.ShloMosaic.Lib.StableHlo.Run
public import Idealize.ShloMosaic.Lib.StableHlo.RunClose
public import Idealize.ShloMosaic.Lib.Routing.Words

@[expose] public section

set_option maxRecDepth 16384

noncomputable section

namespace Cert.KernelIdeal.Ecc

open Idealize.ShloMosaic Idealize.ShloMosaic.TcCoe Idealize.SL.Sem
open Cert.KernelIdeal Cert.KernelIdeal.Gen Cert.Chi

/-- The remainder by `n` as the host computes it: the divisor one in place of zero, and a remainder of the other sign
    than the divisor's moved by the divisor. -/
def divisor (n : IVec S_ 32) : IVec S_ 32 := select (cmpi .eq n (constantI S_ 32 0#32)) (constantI S_ 32 1#32) n
def rest (x : IVec S1568x128 32) (n : IVec S_ 32) : IVec S1568x128 32 :=
  Host.remsi x (broadcastInDim S1568x128 ![] bcast_S_S1568x128 (divisor n))
def modulo (x : IVec S1568x128 32) (n : IVec S_ 32) : IVec S1568x128 32 :=
  select (andi (cmpi .ne (cmpi .slt (rest x n) (broadcastInDim S1568x128 ![] bcast_S_S1568x128 (constantI S_ 32 0#32)))
      (broadcastInDim S1568x128 ![] bcast_S_S1568x128 (cmpi .slt (divisor n) (constantI S_ 32 0#32))))
      (cmpi .ne (rest x n) (broadcastInDim S1568x128 ![] bcast_S_S1568x128 (constantI S_ 32 0#32))))
    (addi (rest x n) (broadcastInDim S1568x128 ![] bcast_S_S1568x128 (divisor n))) (rest x n)
/-- Every position's pixel number within its image. -/
def pixel : IVec S1568x128 32 :=
  addi (muli (modulo (iotaInDim S1568x128 32 0) (constantI S_ 32 392#32))
    (broadcastInDim S1568x128 ![] bcast_S_S1568x128 (constantI S_ 32 128#32))) (iotaInDim S1568x128 32 1)
/-- Infinity where the condition holds and zero elsewhere. -/
def infinityAt (b : IVec S1568x128 1) : FVec Ideal S1568x128 .f32 :=
  select b (broadcastInDim S1568x128 ![] bcast_S_S1568x128 (constant S_ .f32 0x7F800000#32))
    (broadcastInDim S1568x128 ![] bcast_S_S1568x128 (constant S_ .f32 0x00000000#32))
/-- The thirty-two evenly spaced thresholds from zero to one. -/
def part : FVec Ideal S31 .f32 :=
  Host.divf (sitofp .f32 (iotaInDim S31 32 0)) (broadcastInDim S31 ![] bcast_S_S31 (constant S_ .f32 0x41F80000#32))
def below : FVec Ideal S31 .f32 :=
  addf (mulf (broadcastInDim S31 ![0] bcast_S1_S31_0 (shapeCast S1 (constant S_ .f32 0x00000000#32) shapeCasts_S_S1))
      (subf (broadcastInDim S31 ![] bcast_S_S31 (constant S_ .f32 0x3F800000#32)) part))
    (mulf (broadcastInDim S31 ![0] bcast_S1_S31_0 (shapeCast S1 (constant S_ .f32 0x3F800000#32) shapeCasts_S_S1)) part)
def spaced : FVec Ideal S32 .f32 :=
  concatenate S32 0 [⟨S31, below⟩, ⟨S1, broadcastInDim S1 ![] bcast_S_S1 (constant S_ .f32 0x3F800000#32)⟩]
    concatenates_S31_S1_S32_d0

theorem divisor_apply {n : ℕ} (h0 : 0 < n) (hn : n < 2 ^ 31) (j : S_.Idx) :
    divisor (constantI S_ 32 (BitVec.ofNat 32 n)) j = BitVec.ofNat 32 n := by
  have h : (BitVec.ofNat 32 n == 0#32) = false := by
    rw [beq_eq_false_iff_ne]; intro h
    have := congrArg BitVec.toNat h
    simp at this; omega
  show Scalar.select (IntOp.cmpi .eq (BitVec.ofNat 32 n) 0#32) 1#32 (BitVec.ofNat 32 n) = _
  simp [Scalar.select, IntOp.cmpi, h]

theorem modulo_apply {n : ℕ} (h0 : 0 < n) (hn : n < 2 ^ 31) (x : IVec S1568x128 32) (j : S1568x128.Idx) (a : ℕ)
    (ha : a < 2 ^ 31) (hx : x j = BitVec.ofNat 32 a) :
    modulo x (constantI S_ 32 (BitVec.ofNat 32 n)) j = BitVec.ofNat 32 (a % n) := by
  have hr : rest x (constantI S_ 32 (BitVec.ofNat 32 n)) j = BitVec.ofNat 32 (a % n) := by
    show IntOp.remsi .host (x j) (divisor _ _) = _
    rw [hx, divisor_apply h0 hn]
    exact Routing.remsi_word .host ha h0 hn
  have hm : a % n < 2 ^ 31 := lt_trans (Nat.mod_lt _ h0) hn
  have s1 : (BitVec.ofNat 32 (a % n)).slt 0#32 = false := by
    rw [BitVec.slt_zero_eq_msb, BitVec.msb_eq_false_iff_two_mul_lt]; simp; omega
  have s2 : (BitVec.ofNat 32 n).slt 0#32 = false := by
    rw [BitVec.slt_zero_eq_msb, BitVec.msb_eq_false_iff_two_mul_lt]; simp; omega
  show Scalar.select (IntOp.andi (IntOp.cmpi .ne (IntOp.cmpi .slt (rest x _ j) 0#32) (IntOp.cmpi .slt (divisor _ _) 0#32))
    (IntOp.cmpi .ne (rest x _ j) 0#32)) _ (rest x _ j) = _
  rw [hr, divisor_apply h0 hn]
  simp [Scalar.select, IntOp.cmpi, s1, s2, IntOp.andi]

theorem pixel_apply (r : Fin 1568) (l : Fin 128) : pixel (ix2 r l) = BitVec.ofNat 32 ((128 * r.val + l.val) % 50176) := by
  show IntOp.addi (IntOp.muli (modulo _ _ (ix2 r l)) 128#32) (BitVec.ofNat 32 l.val) = _
  rw [modulo_apply (n := 392) (by omega) (by omega) _ _ r.val (by omega) rfl]
  unfold IntOp.addi IntOp.muli
  rw [BitVec.ofNat_mul_ofNat, BitVec.ofNat_add_ofNat]
  congr 1
  omega

variable (m : (ℓ : Loc nD τ sig) → Buf (Elt Ideal) ℓ) (c : Dev nD)

theorem V_x : (V m c main_v0 : FVec Ideal S12x1568x128 .f32)
    = shapeCast S12x1568x128 (m ((c : Thread nD τ).loc main_arg0)) shapeCasts_S16x3x224x224_S12x1568x128 := by
  unfold V V0
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp -implicitDefEqProofs only [StableHlo.TRef.toBuf, StableHlo.TRef.ofBuf, cast_cast, cast_eq]
  rfl

theorem V_t_eq : (V m c main_v2 : FVec Ideal S1x32 .f32) = shapeCast S1x32 spaced shapeCasts_S32_S1x32 := by
  unfold V V0
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp -implicitDefEqProofs only [StableHlo.TRef.toBuf, StableHlo.TRef.ofBuf, cast_cast, cast_eq]
  rfl

theorem V_r_eq : (V m c main_v12 : FVec Ideal S1568x128 .f32)
    = infinityAt (cmpi .eq (modulo pixel (constantI S_ 32 224#32)) (broadcastInDim S1568x128 ![] bcast_S_S1568x128 (constantI S_ 32 223#32))) := by
  unfold V V0
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp -implicitDefEqProofs only [StableHlo.TRef.toBuf, StableHlo.TRef.ofBuf, cast_cast, cast_eq]
  rfl

theorem V_b_eq : (V m c main_v15 : FVec Ideal S1568x128 .f32)
    = infinityAt (cmpi .sge pixel (broadcastInDim S1568x128 ![] bcast_S_S1568x128 (constantI S_ 32 49952#32))) := by
  unfold V V0
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  try simp -implicitDefEqProofs only [StableHlo.TRef.toBuf, StableHlo.TRef.ofBuf, cast_cast, cast_eq]
  rfl

theorem ofBits_inf : Ideal.ofBits .f32 0x7F800000#32 = ⊤ := by simp [Ideal.ofBits, Ideal.ieee]

theorem ofBits_thirtyone : Ideal.ofBits .f32 0x41F80000#32 = ((31 : ℝ) : EReal) := by
  simp [Ideal.ofBits, Ideal.ieee, -EReal.coe_mul]; norm_num

theorem infinityAt_apply (b : IVec S1568x128 1) (j : S1568x128.Idx) :
    infinityAt b j = Scalar.select (b j) (⊤ : EReal) 0 := by
  show Scalar.select (b j) (Ideal.ofBits .f32 0x7F800000#32) (Ideal.ofBits .f32 0x00000000#32) = _
  rw [Ideal.ofBits_zero_f32, ofBits_inf]

theorem V_r (r : Fin 1568) (l : Fin 128) :
    (V m c main_v12 : FVec Ideal S1568x128 .f32) (ix2 r l) = biasR (128 * r.val + l.val) := by
  rw [V_r_eq, infinityAt_apply]
  show Scalar.select (IntOp.cmpi .eq (modulo pixel (constantI S_ 32 (BitVec.ofNat 32 224)) (ix2 r l)) 223#32) _ _ = _
  rw [modulo_apply (n := 224) (by omega) (by omega) _ _ _ (by omega) (pixel_apply r l)]
  unfold biasR
  by_cases h : (128 * r.val + l.val) % 50176 % 224 = 223
  · rw [h]; simp [Scalar.select, IntOp.cmpi]
  · have h' : (BitVec.ofNat 32 ((128 * r.val + l.val) % 50176 % 224) == 223#32) = false := by
      rw [beq_eq_false_iff_ne]; intro e
      have := congrArg BitVec.toNat e
      simp at this; omega
    rw [if_neg h]; simp only [Scalar.select, IntOp.cmpi, h']; rfl

theorem V_b (r : Fin 1568) (l : Fin 128) :
    (V m c main_v15 : FVec Ideal S1568x128 .f32) (ix2 r l) = biasB (128 * r.val + l.val) := by
  rw [V_b_eq, infinityAt_apply]
  show Scalar.select (IntOp.cmpi .sge (pixel (ix2 r l)) 49952#32) _ _ = _
  rw [pixel_apply]
  unfold biasB
  have hlt : (128 * r.val + l.val) % 50176 < 50176 := Nat.mod_lt _ (by omega)
  generalize (128 * r.val + l.val) % 50176 = q at hlt ⊢
  have e1 : (BitVec.ofNat 32 q).toInt = q := by simp [BitVec.toInt_eq_toNat_bmod, Int.bmod]; omega
  have e2 : (49952#32).toInt = 49952 := by decide
  by_cases h : 49952 ≤ q
  · have : (49952#32).sle (BitVec.ofNat 32 q) = true := by rw [BitVec.sle_iff_toInt_le, e1, e2]; omega
    rw [if_pos h]; simp [Scalar.select, IntOp.cmpi, this]
  · have : (49952#32).sle (BitVec.ofNat 32 q) = false := by
      rw [← Bool.not_eq_true, BitVec.sle_iff_toInt_le, e1, e2]; omega
    rw [if_neg h]; simp [Scalar.select, IntOp.cmpi, this]

/-- Threshold `k`. -/
def tau (k : ℕ) : ℝ := (k : ℝ) / 31

theorem part_apply (k : Fin 31) : part (ix1 k) = ((tau k.val : ℝ) : EReal) := by
  show Ideal.div (((BitVec.ofNat 32 k.val).toInt : ℝ) : EReal) (Ideal.ofBits .f32 0x41F80000#32) = _
  have e1 : (BitVec.ofNat 32 k.val).toInt = k.val := by simp [BitVec.toInt_eq_toNat_bmod, Int.bmod]; omega
  rw [ofBits_thirtyone, e1]
  unfold Ideal.div tau
  rw [if_neg (by norm_num), ← EReal.coe_inv, ← EReal.coe_mul, div_eq_mul_inv]
  simp

theorem spaced_apply (k : Fin 32) : spaced (ix1 k) = ((tau k.val : ℝ) : EReal) := by
  have hb : ∀ k : Fin 31, below (ix1 k) = ((tau k.val : ℝ) : EReal) := by
    intro k
    unfold below
    pointwise
    rw [part_apply, zero_mul, zero_add]
  unfold spaced
  pointwise
  split
  · exact hb _
  · have : k.val = 31 := by omega
    rw [this]; simp [tau]

theorem V_t (k : Fin 32) : (V m c main_v2 : FVec Ideal S1x32 .f32) (ix2 0 k) = ((tau k.val : ℝ) : EReal) := by
  rw [V_t_eq, ← spaced_apply k]
  generalize spaced = y
  pointwise

end Cert.KernelIdeal.Ecc

end
-- ==== Proof.Final.lean ====
/-
  The kernel's result: every grid point writes its four images' counts, the points' blocks fill the output array, and the
  last host line lays that array out as one row per batch entry.
-/
module

public import proofs.«01_k».proof.Proof.Entry

@[expose] public section

set_option maxRecDepth 16384

noncomputable section

namespace Cert.KernelIdeal.Ecc

open Idealize.ShloMosaic Idealize.ShloMosaic.TcCoe Idealize.SL.Sem
open Idealize.ShloMosaic.Pipeline (Dat)
open Cert.KernelIdeal Cert.KernelIdeal.Gen Cert.Chi

/-- The images' pixels by flat number, and zero past the last. -/
def flat (x : FVec Ideal S16x3x224x224 .f32) (n : ℕ) : EReal :=
  if h : n < 2408448 then x (ix4 ⟨n / 150528, by omega⟩ ⟨n / 50176 % 3, by omega⟩ ⟨n / 224 % 224, by omega⟩ ⟨n % 224, by omega⟩)
  else 0

/-- Image `g`'s pixels. -/
def picture (x : FVec Ideal S16x3x224x224 .f32) (g p : ℕ) : EReal := flat x (50176 * g + p)

/-- The signed counts of every image at every threshold. -/
def table (x : FVec Ideal S16x3x224x224 .f32) (g k : ℕ) : EReal := ((chi (picture x g) (tau k) : ℝ) : EReal)

theorem flat_cast (x : FVec Ideal S16x3x224x224 .f32) (t : Fin 12) (r : Fin 1568) (l : Fin 128) :
    shapeCast S12x1568x128 x shapeCasts_S16x3x224x224_S12x1568x128 (ix3 t r l)
      = flat x (200704 * t.val + (128 * r.val + l.val)) := by
  unfold flat
  rw [dif_pos (by omega)]
  refine shapeCast_apply (s := S16x3x224x224) (t := S12x1568x128) x _ _ _ ?_
  rw [Shape.rowMajor_val_four, Shape.rowMajor_val_three]
  have hA : ∃ A, A = 200704 * t.val + (128 * r.val + l.val) := ⟨_, rfl⟩
  obtain ⟨A, hA⟩ := hA
  show _ = (t.val * 1568 + r.val) * 128 + l.val
  rw [show (t.val * 1568 + r.val) * 128 + l.val = A by omega]
  simp only [← hA]
  show ((A / 150528 * 3 + A / 50176 % 3) * 224 + A / 224 % 224) * 224 + A % 224 = A
  have d1 : A / 224 / 224 = A / 50176 := Nat.div_div_eq_div_mul _ _ _
  have d2 : A / 50176 / 3 = A / 150528 := Nat.div_div_eq_div_mul _ _ _
  omega

theorem flat_bot (x : FVec Ideal S16x3x224x224 .f32) (hx : ∀ j, ⊥ < x j) (n : ℕ) : ⊥ < flat x n := by
  unfold flat
  split
  · exact hx _
  · exact EReal.bot_lt_zero

variable (m : (ℓ : Loc nD τ sig) → Buf (Elt Ideal) ℓ) (c : Dev nD)

/-- The images as launched. -/
abbrev img : FVec Ideal S16x3x224x224 .f32 := m ((c : Thread nD τ).loc main_arg0)

theorem index3 : ∀ t : Fin grid0.N, win0_3.index t 0 = t.val ∧ win0_3.index t 1 = 0 ∧ win0_3.index t 2 = 0 := by
  decide +kernel
theorem index4 : ∀ t : Fin grid0.N, win0_4.index t 0 = t.val ∧ win0_4.index t 1 = 0 ∧ win0_4.index t 2 = 0
    ∧ win0_4.index t 3 = 0 := by decide +kernel
theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel

theorem lt12 (t : Fin cfg0.N) : t.val < 12 := lt_of_lt_of_eq t.isLt N_0

theorem blk3 (t : Fin cfg0.N) (r : Fin 1568) (l : Fin 128) :
    (iblk m c 3 t : FVec Ideal S1x1568x128 .f32) (ix3 0 r l) = flat (img m c) (200704 * t.val + (128 * r.val + l.val)) := by
  refine Eq.trans ?_ (flat_cast (img m c) ⟨t.val, lt12 t⟩ r l)
  refine Eq.trans ?_ (congrFun (V_x m c) _)
  show (V m c main_v0 : FVec Ideal S12x1568x128 .f32) ((win0_3.rect t).emb (ix3 0 r l)) = _
  refine congrArg _ (funext fun a => Fin.ext ?_)
  rw [Pipeline.Window.rect_emb_val win0_3 t _ _ rfl]
  obtain ⟨e0, e1, e2⟩ := index3 t
  match a with
  | ⟨0, _⟩ => show win0_3.index t 0 * 1 + 0 = t.val; omega
  | ⟨1, _⟩ => show win0_3.index t 1 * 1568 + r.val = r.val; omega
  | ⟨2, _⟩ => show win0_3.index t 2 * 128 + l.val = l.val; omega

theorem blk0 (t : Fin cfg0.N) (k : Fin 32) : (iblk m c 0 t : FVec Ideal S1x32 .f32) (ix2 0 k) = ((tau k.val : ℝ) : EReal) := by
  refine Eq.trans ?_ (V_t m c k)
  show (V m c main_v2 : FVec Ideal S1x32 .f32) ((win0_0.rect t).emb (ix2 0 k)) = _
  refine congrArg _ (funext fun a => Fin.ext ?_)
  rw [Pipeline.Window.rect_emb_val win0_0 t _ _ rfl]
  obtain ⟨e0, e1⟩ := index0 t
  match a with
  | ⟨0, _⟩ => show win0_0.index t 0 * 1 + 0 = 0; omega
  | ⟨1, _⟩ => show win0_0.index t 1 * 32 + k.val = k.val; omega

theorem blk1 (t : Fin cfg0.N) (r : Fin 1568) (l : Fin 128) :
    (iblk m c 1 t : FVec Ideal S1568x128 .f32) (ix2 r l) = biasR (128 * r.val + l.val) := by
  refine Eq.trans ?_ (V_r m c r l)
  show (V m c main_v12 : FVec Ideal S1568x128 .f32) ((win0_1.rect t).emb (ix2 r l)) = _
  refine congrArg _ (funext fun a => Fin.ext ?_)
  rw [Pipeline.Window.rect_emb_val win0_1 t _ _ rfl]
  obtain ⟨e0, e1⟩ := index1 t
  match a with
  | ⟨0, _⟩ => show win0_1.index t 0 * 1568 + r.val = r.val; omega
  | ⟨1, _⟩ => show win0_1.index t 1 * 128 + l.val = l.val; omega

theorem blk2 (t : Fin cfg0.N) (r : Fin 1568) (l : Fin 128) :
    (iblk m c 2 t : FVec Ideal S1568x128 .f32) (ix2 r l) = biasB (128 * r.val + l.val) := by
  refine Eq.trans ?_ (V_b m c r l)
  show (V m c main_v15 : FVec Ideal S1568x128 .f32) ((win0_2.rect t).emb (ix2 r l)) = _
  refine congrArg _ (funext fun a => Fin.ext ?_)
  rw [Pipeline.Window.rect_emb_val win0_2 t _ _ rfl]
  obtain ⟨e0, e1⟩ := index2 t
  match a with
  | ⟨0, _⟩ => show win0_2.index t 0 * 1568 + r.val = r.val; omega
  | ⟨1, _⟩ => show win0_2.index t 1 * 128 + l.val = l.val; omega

/-- What the kernel's output array ends holding. -/
def filled : FVec Ideal S12x4x32x1 .f32 := fun j => table (img m c) (4 * (j 0).val + (j 1).val) (j 2).val

variable (hx : ∀ j, ⊥ < img m c j)
include hx

theorem outs_apply (t : Fin cfg0.N) (i : Fin 4) (k : Fin 32) :
    (outsAt0 m c t : FVec Ideal S1x4x32x1 .f32) (ix4 0 i k 0) = table (img m c) (4 * t.val + i.val) k.val := by
  rw [outsAt_eq]
  rw [body_apply (fun f => flat (img m c) (200704 * t.val + f)) (fun f => flat_bot _ hx _) (tau k.val) _ _ _ _
    (blk3 m c t) (blk1 m c t) (blk2 m c t) i k (blk0 m c t k)]
  unfold table
  refine congrArg (fun a : ℕ → EReal => ((chi a (tau k.val) : ℝ) : EReal)) (funext fun p => ?_)
  unfold image picture
  exact congrArg _ (by omega)

theorem flushed_eq (t : Fin cfg0.N) :
    (dats m 0 c).flushed 4 t = (win0_4.blk t).view.read (Elt Ideal) (filled m c) := by
  show (cfg0.win 4).cut (grid0.coords t) ((dats m 0 c).after 4 t) = _
  rw [after0_4]
  refine funext fun y => ?_
  obtain ⟨e0, e1, e2, e3⟩ := index4 t
  have h0 : (y 0).val < 1 := (y 0).isLt
  have h1 : (y 1).val < 4 := (y 1).isLt
  have h2 : (y 2).val < 32 := (y 2).isLt
  have h3 : (y 3).val < 1 := (y 3).isLt
  have a0 : ((win0_4.rect t).emb y 0 : Nat) = t.val := by
    rw [Pipeline.Window.rect_emb_val win0_4 t _ _ rfl]; show win0_4.index t 0 * 1 + (y 0).val = _; omega
  have a1 : ((win0_4.rect t).emb y 1 : Nat) = (y 1).val := by
    rw [Pipeline.Window.rect_emb_val win0_4 t _ _ rfl]; show win0_4.index t 1 * 4 + (y 1).val = _; omega
  have a2 : ((win0_4.rect t).emb y 2 : Nat) = (y 2).val := by
    rw [Pipeline.Window.rect_emb_val win0_4 t _ _ rfl]; show win0_4.index t 2 * 32 + (y 2).val = _; omega
  refine Eq.trans (b := table (img m c) (4 * t.val + (y 1).val) (y 2).val) ?_ ?_
  · rw [← outs_apply m c hx t ⟨(y 1).val, h1⟩ ⟨(y 2).val, h2⟩]
    show (outsAt0 m c t : FVec Ideal S1x4x32x1 .f32) _ = _
    refine congrArg _ (funext fun a => Fin.ext ?_)
    match a with
    | ⟨0, _⟩ => show (y 0).val = 0; omega
    | ⟨1, _⟩ => rfl
    | ⟨2, _⟩ => rfl
    | ⟨3, _⟩ => show (y 3).val = 0; omega
  · show _ = table (img m c) (4 * ((win0_4.rect t).emb y 0 : Nat) + ((win0_4.rect t).emb y 1 : Nat)) ((win0_4.rect t).emb y 2 : Nat)
    rw [a0, a1, a2]

omit hx in
theorem mem_blk (t : Fin cfg0.N) (i : S12x4x32x1.Idx) (h : (i 0).val = t.val) :
    i ∈ ((cfg0.win 4).blk t).view.set := by
  show i ∈ ((View.whole main_v16).slice (win0_4.rect t)).set
  rw [View.set_slice_whole, Rect.mem_set_unit]
  obtain ⟨e0, e1, e2, e3⟩ := index4 t
  have h1 : (i 1 : Nat) < 4 := (i 1).isLt
  have h2 : (i 2 : Nat) < 32 := (i 2).isLt
  have h3 : (i 3 : Nat) < 1 := (i 3).isLt
  intro a
  match a with
  | ⟨0, _⟩ => show win0_4.index t 0 * 1 ≤ (i 0 : Nat) ∧ (i 0 : Nat) < win0_4.index t 0 * 1 + 1; omega
  | ⟨1, _⟩ => show win0_4.index t 1 * 4 ≤ (i 1 : Nat) ∧ (i 1 : Nat) < win0_4.index t 1 * 4 + 4; omega
  | ⟨2, _⟩ => show win0_4.index t 2 * 32 ≤ (i 2 : Nat) ∧ (i 2 : Nat) < win0_4.index t 2 * 32 + 32; omega
  | ⟨3, _⟩ => show win0_4.index t 3 * 1 ≤ (i 3 : Nat) ∧ (i 3 : Nat) < win0_4.index t 3 * 1 + 1; omega

omit hx in
theorem cover (i : S12x4x32x1.Idx) :
    ∃ t : Fin cfg0.N, (cfg0.win 4).flush t = true ∧ i ∈ ((cfg0.win 4).blk t).view.set := by
  have h0 : (i 0 : Nat) < 12 := (i 0).isLt
  have hN : cfg0.N = 12 := N_0
  exact ⟨⟨(i 0).val, by omega⟩, flush0_4 _, mem_blk _ i rfl⟩

theorem final_o : (dats m 0 c).arrAt 4 cfg0.N = filled m c :=
  (dats m 0 c).arrAt_eq_of_cover 4 (filled m c) (fun t _ => flushed_eq m c hx t) cover

/-- The kernel's result. -/
theorem result_eq : (Pipeline.afterTail₀ cfgs (dats m) 0 (V0 m) [hostOps1] c main_v17 : FVec Ideal S16x96 .f32)
    = shapeCast S16x96 (filled m c) shapeCasts_S12x4x32x1_S16x96 := by
  unfold Pipeline.afterTail₀
  simp only [hostOps1, List.flatten_cons, List.flatten_nil, List.append_nil]
  after_results_simp
  have e := Pipeline.withArrays_arr spec0 launch0.win.arr_inj c (V0 m c) (fun w => (dats m 0 c).arrAt w cfg0.N) 4
  rw [show (Pipeline.withArrays (cfgs 0).spec c (V0 m c) (fun w => (dats m 0 c).arrAt w (cfgs 0).N) (Proc.tc.devRef main_v16))
      = filled m c from e.trans (final_o m c hx)]
  rfl

theorem result_apply (b : Fin 16) (j : Fin 96) :
    (Pipeline.afterTail₀ cfgs (dats m) 0 (V0 m) [hostOps1] c main_v17 : FVec Ideal S16x96 .f32) (ix2 b j)
    = table (img m c) (3 * b.val + j.val / 32) (j.val % 32) := by
  rw [result_eq m c hx]
  have e : ∀ y : FVec Ideal S12x4x32x1 .f32, shapeCast S16x96 y shapeCasts_S12x4x32x1_S16x96 (ix2 b j)
      = y (ix4 ⟨(3 * b.val + j.val / 32) / 4, by omega⟩ ⟨(3 * b.val + j.val / 32) % 4, by omega⟩ ⟨j.val % 32, by omega⟩ 0) := by
    intro y
    pointwise
    congr 3
    all_goals omega
  rw [e]
  unfold filled
  show table _ (4 * ((3 * b.val + j.val / 32) / 4) + (3 * b.val + j.val / 32) % 4) (j.val % 32) = _
  exact congrArg (fun g => table _ g _) (by omega)

end Cert.KernelIdeal.Ecc

end
-- ==== Proof.RefValue.lean ====
/-
  The reference's cells: the array of all cells' values, their signs, and each cell's bin, read at an index.
-/
module

public import proofs.«01_k».proof.Proof.Cells
public import proofs.«01_k».proof.Proof.Final
public import proofs.«01_k».proof.Proof.Gen.ReferenceIdeal.Read

@[expose] public section

set_option maxRecDepth 16384

noncomputable section

namespace Cert.ReferenceIdeal.Ecc

open Idealize.ShloMosaic Idealize.ShloMosaic.TcCoe Idealize.SL.Sem
open Cert.ReferenceIdeal Cert.ReferenceIdeal.Read Cert.Chi
open Cert.KernelIdeal.Ecc (flat picture tau table spaced spaced_apply)

variable (x : FVec Ideal S16x3x224x224 .f32) (b : Fin 16) (c : Fin 3)

/-- A pixel of image `(b, c)`. -/
theorem picture_at (r : Fin 224) (l : Fin 224) : picture x (3 * b.val + c.val) (224 * r.val + l.val) = x (ix4 b c r l) := by
  unfold picture flat
  have hA : 50176 * (3 * b.val + c.val) + (224 * r.val + l.val) < 2408448 := by omega
  rw [dif_pos hA]
  obtain ⟨A, eA⟩ : ∃ A, A = 50176 * (3 * b.val + c.val) + (224 * r.val + l.val) := ⟨_, rfl⟩
  simp only [← eA]
  have e1 : A / 150528 = b.val := by omega
  have e2 : A / 50176 % 3 = c.val := by
    rw [show A / 50176 = 3 * b.val + c.val by omega]; omega
  have e3 : A / 224 % 224 = r.val := by
    rw [show A / 224 = 224 * (3 * b.val + c.val) + r.val by omega]; omega
  have e4 : A % 224 = l.val := by omega
  refine congrArg x (funext fun a => Fin.ext ?_)
  match a with
  | ⟨0, _⟩ => exact e1
  | ⟨1, _⟩ => exact e2
  | ⟨2, _⟩ => exact e3
  | ⟨3, _⟩ => exact e4

theorem pixels_apply (n : Fin 50176) : (val_main_v1 (F := Ideal) x : FVec Ideal S16x3x50176 .f32) (ix3 b c n) = picture x (3 * b.val + c.val) n.val := by
  have h := picture_at x b c ⟨n.val / 224, by omega⟩ ⟨n.val % 224, by omega⟩
  rw [show 224 * (n.val / 224) + n.val % 224 = n.val by omega] at h
  rw [h]
  unfold val_main_v1
  pointwise

theorem across_apply (q : Fin 49952) :
    (val_main_v5 (F := Ideal) x : FVec Ideal S16x3x49952 .f32) (ix3 b c q) = edgeH (picture x (3 * b.val + c.val)) (corner q.val) := by
  have h1 := picture_at x b c ⟨q.val / 223, by omega⟩ ⟨q.val % 223, by omega⟩
  have h2 := picture_at x b c ⟨q.val / 223, by omega⟩ ⟨q.val % 223 + 1, by omega⟩
  unfold edgeH corner
  rw [Nat.add_assoc]
  rw [h1, h2]
  unfold val_main_v5 val_main_v4 val_main_v3 val_main_v2
  pointwise
  rw [show (⟨1 + q.val % 223, by omega⟩ : Fin 224) = ⟨q.val % 223 + 1, by omega⟩ from Fin.ext (Nat.add_comm _ _)]

theorem down_apply (q : Fin 49952) :
    (val_main_v9 (F := Ideal) x : FVec Ideal S16x3x49952 .f32) (ix3 b c q) = edgeV (picture x (3 * b.val + c.val)) q.val := by
  have h1 := picture_at x b c ⟨q.val / 224, by omega⟩ ⟨q.val % 224, by omega⟩
  have h2 := picture_at x b c ⟨q.val / 224 + 1, by omega⟩ ⟨q.val % 224, by omega⟩
  rw [show 224 * (q.val / 224) + q.val % 224 = q.val by omega] at h1
  rw [show 224 * (q.val / 224 + 1) + q.val % 224 = q.val + 224 by omega] at h2
  unfold edgeV
  rw [h1, h2]
  unfold val_main_v9 val_main_v8 val_main_v7 val_main_v6
  pointwise
  rw [show (⟨1 + q.val / 224, by omega⟩ : Fin 224) = ⟨q.val / 224 + 1, by omega⟩ from Fin.ext (Nat.add_comm _ _)]

theorem lowest (j : S_.Idx) : (val_main_cst_1 (F := Ideal) : FVec Ideal S_ .f32) j = (⊥ : EReal) := by
  show Ideal.ofBits .f32 0xFF800000#32 = (⊥ : EReal)
  simp [Ideal.ofBits, Ideal.ieee]

/-! The four corners of a square, stacked along a fifth dimension. -/

theorem quad0_apply (r l : Fin 223) :
    (val_main_v18 (F := Ideal) x : FVec Ideal S16x3x223x223x4 .f32) (ix5 b c r l 0) = x (ix4 b c ⟨r.val, by omega⟩ ⟨l.val, by omega⟩) := by
  unfold val_main_v18 val_main_v17 val_main_v16 val_main_v15 val_main_v14 val_main_v13 val_main_v12 val_main_v11 val_main_v10
  pointwise

theorem quad1_apply (r l : Fin 223) :
    (val_main_v18 (F := Ideal) x : FVec Ideal S16x3x223x223x4 .f32) (ix5 b c r l 1) = x (ix4 b c ⟨r.val, by omega⟩ ⟨l.val + 1, by omega⟩) := by
  unfold val_main_v18 val_main_v17 val_main_v16 val_main_v15 val_main_v14 val_main_v13 val_main_v12 val_main_v11 val_main_v10
  pointwise
  rw [show (⟨1 + l.val, by omega⟩ : Fin 224) = ⟨l.val + 1, by omega⟩ from Fin.ext (Nat.add_comm _ _)]

theorem quad2_apply (r l : Fin 223) :
    (val_main_v18 (F := Ideal) x : FVec Ideal S16x3x223x223x4 .f32) (ix5 b c r l 2) = x (ix4 b c ⟨r.val + 1, by omega⟩ ⟨l.val, by omega⟩) := by
  unfold val_main_v18 val_main_v17 val_main_v16 val_main_v15 val_main_v14 val_main_v13 val_main_v12 val_main_v11 val_main_v10
  pointwise
  rw [show (⟨1 + r.val, by omega⟩ : Fin 224) = ⟨r.val + 1, by omega⟩ from Fin.ext (Nat.add_comm _ _)]

theorem quad3_apply (r l : Fin 223) :
    (val_main_v18 (F := Ideal) x : FVec Ideal S16x3x223x223x4 .f32) (ix5 b c r l 3) = x (ix4 b c ⟨r.val + 1, by omega⟩ ⟨l.val + 1, by omega⟩) := by
  unfold val_main_v18 val_main_v17 val_main_v16 val_main_v15 val_main_v14 val_main_v13 val_main_v12 val_main_v11 val_main_v10
  pointwise
  rw [show (⟨1 + r.val, by omega⟩ : Fin 224) = ⟨r.val + 1, by omega⟩ from Fin.ext (Nat.add_comm _ _)]
  rw [show (⟨1 + l.val, by omega⟩ : Fin 224) = ⟨l.val + 1, by omega⟩ from Fin.ext (Nat.add_comm _ _)]

theorem squares_apply (q : Fin 49729) :
    (val_main_v20 (F := Ideal) x : FVec Ideal S16x3x49729 .f32) (ix3 b c q) = square (picture x (3 * b.val + c.val)) (corner q.val) := by
  have h1 := picture_at x b c ⟨q.val / 223, by omega⟩ ⟨q.val % 223, by omega⟩
  have h2 := picture_at x b c ⟨q.val / 223, by omega⟩ ⟨q.val % 223 + 1, by omega⟩
  have h3 := picture_at x b c ⟨q.val / 223 + 1, by omega⟩ ⟨q.val % 223, by omega⟩
  have h4 := picture_at x b c ⟨q.val / 223 + 1, by omega⟩ ⟨q.val % 223 + 1, by omega⟩
  have h2 : picture x (3 * b.val + c.val) (224 * (q.val / 223) + q.val % 223 + 1) = _ := h2
  rw [show 224 * (q.val / 223 + 1) + q.val % 223 = 224 * (q.val / 223) + q.val % 223 + 224 by omega] at h3
  have h4 : picture x (3 * b.val + c.val) (224 * (q.val / 223 + 1) + q.val % 223 + 1) = _ := h4
  rw [show 224 * (q.val / 223 + 1) + q.val % 223 + 1 = 224 * (q.val / 223) + q.val % 223 + 224 + 1 by omega] at h4
  unfold square edgeH corner
  rw [h1, h2, h3, h4]
  unfold val_main_v20 val_main_v19
  pointwise
  rw [show (Finset.univ : Finset (Fin 4)) = {0, 1, 2, 3} by decide]
  simp only [Finset.fold_insert_idem, Finset.fold_singleton]
  have k0 := quad0_apply x b c ⟨q.val / 223, by omega⟩ ⟨q.val % 223, by omega⟩
  have k1 := quad1_apply x b c ⟨q.val / 223, by omega⟩ ⟨q.val % 223, by omega⟩
  have k2 := quad2_apply x b c ⟨q.val / 223, by omega⟩ ⟨q.val % 223, by omega⟩
  have k3 := quad3_apply x b c ⟨q.val / 223, by omega⟩ ⟨q.val % 223, by omega⟩
  rw [k0, k1, k2, k3, lowest, max_bot_right]
  simp only [max_assoc]

theorem values_apply (n : Fin 199809) :
    (val_main_v21 (F := Ideal) x : FVec Ideal S16x3x199809 .f32) (ix3 b c n) = value (picture x (3 * b.val + c.val)) n.val := by
  unfold val_main_v21
  have h1 := pixels_apply x b c
  have h2 := across_apply x b c
  have h3 := down_apply x b c
  have h4 := squares_apply x b c
  generalize val_main_v1 (F := Ideal) x = y1 at h1 ⊢
  generalize val_main_v5 (F := Ideal) x = y2 at h2 ⊢
  generalize val_main_v9 (F := Ideal) x = y3 at h3 ⊢
  generalize val_main_v20 (F := Ideal) x = y4 at h4 ⊢
  pointwise
  unfold value
  rcases lt_or_ge n.val 50176 with g1 | g1
  · rw [dif_pos g1, if_pos g1, h1]
  rw [dif_neg (Nat.not_lt.mpr g1), if_neg (Nat.not_lt.mpr g1)]
  rcases lt_or_ge n.val 100128 with g2 | g2
  · have e : n.val - 50176 < 49952 := by omega
    rw [dif_pos e, if_pos g2]
    refine (h2 _).trans ?_
    dsimp only
  rw [dif_neg (show ¬ n.val - 50176 < 49952 by omega), if_neg (Nat.not_lt.mpr g2)]
  rcases lt_or_ge n.val 150080 with g3 | g3
  · have e : n.val - 50176 - 49952 = n.val - 100128 := by omega
    rw [dif_pos (show n.val - 50176 - 49952 < 49952 by omega), if_pos g3, h3]
    dsimp only
    rw [e]
  · have e : n.val - 50176 - 49952 - 49952 = n.val - 150080 := by omega
    rw [dif_neg (show ¬ n.val - 50176 - 49952 < 49952 by omega), if_neg (Nat.not_lt.mpr g3), h4]
    dsimp only
    rw [e]

theorem signs_apply (n : Fin 199809) : (val_main_v28 (F := Ideal) : FVec Ideal S199809 .f32) (ix1 n) = ((sign n.val : ℝ) : EReal) := by
  unfold val_main_v28 val_main_v27 val_main_v26 val_main_v25 val_main_v24 val_main_v23 val_main_v22
  pointwise
  unfold sign val_main_cst_2 val_main_cst_3 val_main_cst_4 val_main_cst_5
  simp only [constant, FloatOps.ofBits, Ideal.ofBits_one_f32]
  split_ifs <;> first | omega | simp

end Cert.ReferenceIdeal.Ecc

end
-- ==== Proof.RefBin.lean ====
/-
  The reference's bins and updates, and where each update is added, read at an index.
-/
module

public import proofs.«01_k».proof.Proof.RefValue
public import Idealize.ShloMosaic.Lib.StableHlo.Predicate
public import Idealize.ShloMosaic.Lib.Routing.OpsPair

@[expose] public section

set_option maxRecDepth 16384

noncomputable section

namespace Cert.ReferenceIdeal.Ecc

open Idealize.ShloMosaic Idealize.ShloMosaic.TcCoe Idealize.SL.Sem
open Cert.ReferenceIdeal Cert.ReferenceIdeal.Read Cert.Chi
open Cert.KernelIdeal.Ecc (flat picture tau table spaced spaced_apply)

/-- The thresholds as extended reals. -/
def grid (k : ℕ) : EReal := ((tau k : ℝ) : EReal)

theorem grid_mono : StrictMono grid := by
  intro i j h
  have h : (i : ℝ) < j := by exact_mod_cast h
  show ((tau i : ℝ) : EReal) < ((tau j : ℝ) : EReal)
  rw [EReal.coe_lt_coe_iff]
  unfold tau
  gcongr

theorem thresholds_apply (k : Fin 32) : (val_main_v0 (F := Ideal) : FVec Ideal S32 .f32) (ix1 k) = grid k.val := by
  refine Eq.trans (congrFun ?_ (ix1 k)) (spaced_apply k)
  rfl

variable (x : FVec Ideal S16x3x224x224 .f32) (b : Fin 16) (c : Fin 3) (n : Fin 199809)

/-- The bin of cell `n` of image `g`. -/
def slot (g n : ℕ) : ℕ := bin grid (value (picture x g) n)

theorem slot_lt (g n : ℕ) : slot x g n < 33 := bin_lt _ _

theorem beneath_apply (k : Fin 32) :
    (val_main_v34 (F := Ideal) x : IVec S16x3x199809x32 32) (ix4 b c n k) = if grid k.val < value (picture x (3 * b.val + c.val)) n.val then 1#32 else 0#32 := by
  unfold val_main_v34 val_main_v33 val_main_v32 val_main_v31 val_main_v30 val_main_v29
  rw [← values_apply, ← thresholds_apply]
  generalize val_main_v21 (F := Ideal) x = y
  generalize val_main_v0 (F := Ideal) = t
  pointwise
  by_cases h : t (ix1 k) < y (ix3 b c n)
  · rw [if_pos h, decide_eq_true h]; rfl
  · rw [if_neg h, decide_eq_false h]; rfl

theorem counts_apply :
    (val_main_v35 (F := Ideal) x : IVec S16x3x199809 32) (ix3 b c n) = BitVec.ofNat 32 (slot x (3 * b.val + c.val) n.val) := by
  have h := beneath_apply x b c n
  unfold val_main_v35 val_main_c
  generalize val_main_v34 (F := Ideal) x = y at h ⊢
  pointwise
  have hs : ∑ k : Fin 32, (if grid k.val < value (picture x (3 * b.val + c.val)) n.val then 1#32 else 0#32).toNat
      = slot x (3 * b.val + c.val) n.val := by
    unfold slot bin
    rw [Finset.card_filter, Finset.sum_range]
    exact Finset.sum_congr rfl fun k _ => by split <;> rfl
  have hl := slot_lt x (3 * b.val + c.val) n.val
  simp only [h]
  apply BitVec.eq_of_toNat_eq
  rw [StableHlo.Predicate.toNat_fold_addi _ _ (by rw [hs]; omega), hs, BitVec.toNat_ofNat, Nat.mod_eq_of_lt (by omega)]

/-- A small number as a signed word. -/
theorem toInt_small (k : ℕ) (hk : k < 2 ^ 31) : (BitVec.ofNat 32 k).toInt = (k : ℤ) := by
  simp [BitVec.toInt_eq_toNat_bmod, Int.bmod]; omega

theorem places_apply :
    (val_main_v39 (F := Ideal) x : IVec S16x3x199809 32) (ix3 b c n) = BitVec.ofNat 32 (min (slot x (3 * b.val + c.val) n.val) 31) := by
  have h := counts_apply x b c n
  have hl := slot_lt x (3 * b.val + c.val) n.val
  unfold val_main_v39 val_main_v38 val_main_c_7
  generalize val_main_v35 (F := Ideal) x = y at h ⊢
  pointwise
  rw [h]
  unfold IntOp.minsi
  simp only [BitVec.slt, toInt_small _ (show slot x (3 * b.val + c.val) n.val < 2 ^ 31 by omega), toInt_small 31 (by omega), decide_eq_true_eq]
  split
  · rename_i k
    rw [Nat.min_eq_left (by omega)]
  · rename_i k
    rw [Nat.min_eq_right (by omega)]

theorem amounts_apply :
    (val_main_v40 (F := Ideal) x : FVec Ideal S16x3x199809 .f32) (ix3 b c n)
      = if slot x (3 * b.val + c.val) n.val < 32 then ((sign n.val : ℝ) : EReal) else 0 := by
  have h := counts_apply x b c n
  have hl := slot_lt x (3 * b.val + c.val) n.val
  have hs := signs_apply n
  unfold val_main_v40 val_main_call1_v0 val_main_call1_v1 val_main_v37 val_main_v36 val_main_c_6 val_main_cst_8
  generalize val_main_v35 (F := Ideal) x = y at h ⊢
  generalize val_main_v28 (F := Ideal) = z at hs ⊢
  pointwise
  rw [h, hs]
  simp only [Scalar.select, IntOp.cmpi, BitVec.slt, toInt_small _ (show slot x (3 * b.val + c.val) n.val < 2 ^ 31 by omega), toInt_small 32 (by omega)]
  by_cases k : slot x (3 * b.val + c.val) n.val < 32
  · rw [if_pos k]; simp [k]
  · rw [if_neg k]; simp [k]

theorem row_place (g : Fin 48) :
    (val_main_v55 (F := Ideal) x : IVec S48x199809 32) (ix2 g n) = BitVec.ofNat 32 (min (slot x g.val n.val) 31) := by
  have h := places_apply x ⟨g.val / 3, by omega⟩ ⟨g.val % 3, by omega⟩ n
  dsimp only at h
  rw [show 3 * (g.val / 3) + g.val % 3 = g.val by omega] at h
  unfold val_main_v55 val_main_v54 val_main_v53 val_main_v52 val_main_v51 val_main_v44 val_main_c_12 val_main_c_13
  generalize val_main_v39 (F := Ideal) x = y at h ⊢
  pointwise
  rw [h]
  exact Routing.wrap_of_lt _ _ (by rw [BitVec.toNat_ofNat, Nat.mod_eq_of_lt (by omega)]; omega)

theorem row_amount (g : Fin 48) :
    (val_main_v45 (F := Ideal) x : FVec Ideal S48x199809 .f32) (ix2 g n)
      = if slot x g.val n.val < 32 then ((sign n.val : ℝ) : EReal) else 0 := by
  have h := amounts_apply x ⟨g.val / 3, by omega⟩ ⟨g.val % 3, by omega⟩ n
  dsimp only at h
  rw [show 3 * (g.val / 3) + g.val % 3 = g.val by omega] at h
  unfold val_main_v45
  generalize val_main_v40 (F := Ideal) x = y at h ⊢
  pointwise
  exact h

theorem row_number (g : Fin 48) :
    (val_main_v56 (F := Ideal) : IVec S48x199809 32) (ix2 g n) = BitVec.ofNat 32 g.val := by
  unfold val_main_v56 val_main_v50 val_main_v49 val_main_v48 val_main_v47 val_main_v46 val_main_v42 val_main_v41 val_main_c_10 val_main_c_11
  pointwise
  exact Routing.wrap_of_lt _ _ (by rw [BitVec.toNat_ofNat, Nat.mod_eq_of_lt (by omega)]; omega)

theorem target_row (g : Fin 48) :
    (val_main_v59 (F := Ideal) x : IVec S48x199809x2 32) (ix3 g n 0) = BitVec.ofNat 32 g.val := by
  have h := row_number n g
  unfold val_main_v59 val_main_v57 val_main_v58
  generalize val_main_v56 (F := Ideal) = y at h ⊢
  generalize val_main_v55 (F := Ideal) x = z
  pointwise
  exact h

theorem target_column (g : Fin 48) :
    (val_main_v59 (F := Ideal) x : IVec S48x199809x2 32) (ix3 g n 1) = BitVec.ofNat 32 (min (slot x g.val n.val) 31) := by
  have h := row_place x n g
  unfold val_main_v59 val_main_v57 val_main_v58
  generalize val_main_v56 (F := Ideal) = y
  generalize val_main_v55 (F := Ideal) x = z at h ⊢
  pointwise
  exact h

end Cert.ReferenceIdeal.Ecc

end
-- ==== Proof.Histogram.lean ====
/-
  The reference's histogram and its running sum along the thresholds: the result is the table of signed counts.
-/
module

public import proofs.«01_k».proof.Proof.RefBin
public import Idealize.ShloMosaic.Lib.Routing.Ops

@[expose] public section

set_option maxRecDepth 16384

noncomputable section

namespace Cert.ReferenceIdeal.Ecc

open Idealize.ShloMosaic Idealize.ShloMosaic.TcCoe Idealize.SL.Sem
open Cert.ReferenceIdeal Cert.ReferenceIdeal.Read Cert.Chi
open Cert.KernelIdeal.Ecc (flat picture tau table spaced spaced_apply)

/-! ## A running sum along the second axis -/

/-- A left fold of addition over a list, from `z`. -/
theorem foldl_add {ι : Type} (l : List ι) (g : ι → EReal) (z : EReal) :
    l.foldl (fun r a => r + g a) z = z + (l.map g).sum := by
  induction l generalizing z with
  | nil => simp
  | cons a l ih => rw [List.foldl_cons, ih, List.map_cons, List.sum_cons, add_assoc]

/-- Of a window that ends at `k`, the terms inside the array are those up to `k`. -/
theorem window_sum (N k : ℕ) (hk : k ≤ N) (f : ℕ → EReal) :
    ∑ w ∈ Finset.range (N + 1), (if N ≤ k + w then f (k + w - N) else 0) = ∑ j ∈ Finset.range (k + 1), f j := by
  obtain ⟨d, rfl⟩ : ∃ d, N = k + d := ⟨N - k, by omega⟩
  rw [show k + d + 1 = d + (k + 1) by omega, Finset.sum_range_add]
  rw [Finset.sum_eq_zero (s := Finset.range d) fun w hw => if_neg (by have := Finset.mem_range.mp hw; omega), zero_add]
  refine Finset.sum_congr rfl fun j _ => ?_
  rw [if_pos (by omega), show k + (d + j) - (k + d) = j by omega]

/-- The running sum of each row. -/
theorem running {R : ℕ} (x : FVec Ideal ⟨2, ![R, 32]⟩ .f32) (f : ℕ → EReal) (g : Fin R)
    (hx : ∀ i : Fin 32, x (ix2 g i) = f i.val) (init : FVec Ideal S_ .f32) (hu : 0 < S_.numel) (hinit : init (Shape.Idx.first hu) = (0 : EReal))
    (h : (⟨2, ![R, 32]⟩ : Shape).ReduceWindows (![1, 32] : Fin 2 → Nat) ![1, 1] ![0, 31] ![0, 0] ⟨2, ![R, 32]⟩) (k : Fin 32) :
    Host.reduceWindow (fun a b : EReal => a + b) ![1, 32] ![1, 1] ![0, 31] ![0, 0] x init h hu (ix2 g k)
      = ∑ j ∈ Finset.range (k.val + 1), f j := by
  have hk := k.isLt
  unfold Host.reduceWindow
  dsimp only
  rw [hinit]
  have hS : (⟨(⟨2, ![R, 32]⟩ : Shape).rank, ![1, 32]⟩ : Shape) = Routing.shape2 1 32 := rfl
  refine (foldl_add _ _ 0).trans ?_
  rw [zero_add]
  refine (congrArg List.sum (List.map_congr_left (g := fun n => if 31 ≤ k.val + n.val then f (k.val + n.val - 31) else 0) fun n _ => ?_)).trans ?_
  · have hw0 : ((Routing.shape2 1 32).rowMajor.symm n 0).val = 0 := by rw [Routing.symm2]; rfl
    have hw : ((Routing.shape2 1 32).rowMajor.symm n 1).val = n.val := by rw [Routing.symm2]; rfl
    have hn : n.val < 32 := (n.cast (Routing.numel2 32)).isLt
    have hg := g.isLt
    split
    · next hin =>
      have h1 := hin 1
      change 31 ≤ k.val * 1 + ((Routing.shape2 1 32).rowMajor.symm n 1).val
        ∧ k.val * 1 + ((Routing.shape2 1 32).rowMajor.symm n 1).val - 31 < 32 at h1
      rw [hw] at h1
      rw [if_pos (by omega)]
      refine (congrArg x (funext fun a => Fin.ext ?_)).trans (hx ⟨k.val + n.val - 31, by omega⟩)
      match a with
      | ⟨0, _⟩ =>
        show g.val * 1 + ((Routing.shape2 1 32).rowMajor.symm n 0).val - 0 = g.val
        rw [hw0]; omega
      | ⟨1, _⟩ =>
        show k.val * 1 + ((Routing.shape2 1 32).rowMajor.symm n 1).val - 31 = k.val + n.val - 31
        rw [hw, Nat.mul_one]
    · next hin =>
      rw [if_neg fun hle => hin fun a => by
        match a with
        | ⟨0, _⟩ =>
          show 0 ≤ g.val * 1 + ((Routing.shape2 1 32).rowMajor.symm n 0).val ∧ g.val * 1 + ((Routing.shape2 1 32).rowMajor.symm n 0).val - 0 < R
          rw [hw0]
          omega
        | ⟨1, _⟩ =>
          show 31 ≤ k.val * 1 + ((Routing.shape2 1 32).rowMajor.symm n 1).val
            ∧ k.val * 1 + ((Routing.shape2 1 32).rowMajor.symm n 1).val - 31 < 32
          rw [hw]
          omega]
  · rw [Routing.map_finRange_val _ (fun w => if 31 ≤ k.val + w then f (k.val + w - 31) else 0)]
    rw [show (Routing.shape2 1 32).numel = 31 + 1 from Routing.numel2 32]
    rw [← window_sum 31 k.val (by omega) f, Finset.sum_range]
    rw [← List.sum_ofFn]
    rw [← Routing.map_finRange_val, List.ofFn_eq_map]

variable (x : FVec Ideal S16x3x224x224 .f32)

/-! ## The histogram -/

/-- What cell `n` of image `g` adds at bin `j`. -/
def share (g n j : ℕ) : EReal :=
  if min (slot x g n) 31 = j then (if slot x g n < 32 then ((sign n : ℝ) : EReal) else 0) else 0

/-- A sum over the indices of a matrix, row by row. -/
theorem sum_pairs {A B : ℕ} (f : (⟨2, ![A, B]⟩ : Shape).Idx → EReal) : ∑ i, f i = ∑ a : Fin A, ∑ b : Fin B, f (ix2 a b) := by
  rw [← Fintype.sum_prod_type']
  refine Fintype.sum_equiv ⟨fun i => (i 0, i 1), fun p => ix2 p.1 p.2, fun i => ?_, fun p => rfl⟩ _ _ fun i => ?_
  · funext a; match a with | ⟨0, _⟩ => rfl | ⟨1, _⟩ => rfl
  · refine congrArg f ?_
    funext a; match a with | ⟨0, _⟩ => rfl | ⟨1, _⟩ => rfl

/-- A histogram, one to a row: update `(a, n)` is added in row `a` at column `p a n`. -/
theorem scatter_rows {R C B : ℕ} (d : ScatterDims ⟨2, ![R, C]⟩ ⟨3, ![R, B, 2]⟩ ⟨2, ![R, B]⟩) (hiw : d.insertedWindowDims = [0, 1])
    (hsd : d.scatterDimsToOperandDims = [0, 1]) (hivd : d.indexVectorDim = 2) (z : FVec Ideal ⟨2, ![R, C]⟩ .f32)
    (i : IVec ⟨3, ![R, B, 2]⟩ 32) (u : FVec Ideal ⟨2, ![R, B]⟩ .f32) (p : Fin R → Fin B → ℕ)
    (h0 : ∀ a n, (i (ix3 a n 0)).toInt = (a.val : ℤ)) (h1 : ∀ a n, (i (ix3 a n 1)).toInt = (p a n : ℤ)) (g : Fin R) (j : Fin C)
    (hz : z (ix2 g j) = (0 : EReal)) :
    (Host.scatterAdd d z i u : FVec Ideal ⟨2, ![R, C]⟩ .f32) (ix2 g j) = ∑ n : Fin B, if p g n = j.val then (u (ix2 g n) : EReal) else 0 := by
  have hl : ∀ (a : Fin R) (n : Fin B), d.resultIdx? (ix2 a n) i = some (ix2 g j) ↔ a = g ∧ p a n = j.val := by
    intro a n
    have h := Routing.scatter_lands2 d hiw hsd hivd i a n g j
    rw [← ix3_eq_valueIdx, ← ix3_eq_valueIdx, ← ix2_eq_valueIdx, ← ix2_eq_valueIdx, h0, h1] at h
    exact h.trans (and_congr ⟨fun e => Fin.ext (by exact_mod_cast e), fun e => by rw [e]⟩ ⟨fun e => by exact_mod_cast e, fun e => by rw [e]⟩)
  unfold Host.scatterAdd
  rw [Ideal.hostScatterAdd_def]
  unfold Ideal.hostScatterAdd
  rw [hz, zero_add, Finset.sum_filter, sum_pairs]
  rw [Finset.sum_eq_single g]
  · exact Finset.sum_congr rfl fun n _ => if_congr ((hl g n).trans (and_iff_right rfl)) rfl rfl
  · intro a _ ha
    exact Finset.sum_eq_zero fun n _ => if_neg fun hh => ha ((hl a n).mp hh).1
  · intro hh
    exact absurd (Finset.mem_univ _) hh

theorem zeros_apply (g : Fin 48) (j : Fin 32) : (val_main_v43 (F := Ideal) : FVec Ideal S48x32 .f32) (ix2 g j) = (0 : EReal) := by
  unfold val_main_v43 val_main_cst_9
  pointwise

theorem histogram_apply (g : Fin 48) (j : Fin 32) :
    (val_main_v60 (F := Ideal) x : FVec Ideal S48x32 .f32) (ix2 g j) = ∑ n ∈ Finset.range 199809, share x g.val n j.val := by
  have h0 : ∀ (a : Fin 48) (n : Fin 199809), ((val_main_v59 (F := Ideal) x : IVec S48x199809x2 32) (ix3 a n 0)).toInt = (a.val : ℤ) :=
    fun a n => by rw [target_row, toInt_small _ (by omega)]
  have h1 : ∀ (a : Fin 48) (n : Fin 199809), ((val_main_v59 (F := Ideal) x : IVec S48x199809x2 32) (ix3 a n 1)).toInt
      = ((min (slot x a.val n.val) 31 : ℕ) : ℤ) :=
    fun a n => by rw [target_column, toInt_small _ (by omega)]
  have hu := fun n => row_amount x n g
  have hz := zeros_apply g j
  unfold val_main_v60
  generalize val_main_v59 (F := Ideal) x = i at h0 h1 ⊢
  generalize val_main_v45 (F := Ideal) x = u at hu ⊢
  generalize val_main_v43 (F := Ideal) = z at hz ⊢
  refine (scatter_rows _ rfl rfl rfl z i u (fun a n => min (slot x a.val n.val) 31) h0 h1 g j hz).trans ?_
  refine Eq.trans ?_ (Finset.sum_range _).symm
  refine Finset.sum_congr rfl fun n _ => ?_
  unfold share
  rw [← hu n]

/-- The running sum of a row is the image's signed count at each threshold. -/
theorem counted_apply (g : Fin 48) (k : Fin 32) :
    (val_main_v61 (F := Ideal) x : FVec Ideal S48x32 .f32) (ix2 g k) = table x g.val k.val := by
  have hk := k.isLt
  have e : (val_main_v61 (F := Ideal) x : FVec Ideal S48x32 .f32) (ix2 g k)
      = ∑ j ∈ Finset.range (k.val + 1), ∑ n ∈ Finset.range 199809, share x g.val n j := by
    have hh := histogram_apply x g
    unfold val_main_v61
    generalize val_main_v60 (F := Ideal) x = y at hh ⊢
    unfold Host.reduceWindowAdd
    rw [Ideal.hostReduceWindowAdd_def]
    exact running y (fun j => ∑ n ∈ Finset.range 199809, share x g.val n j) g hh _ Gen.h_S_ Ideal.ofBits_zero_f32 _ k
  rw [e, Finset.sum_comm]
  have e2 : ∀ n, ∑ j ∈ Finset.range (k.val + 1), share x g.val n j
      = (((if value (picture x g.val) n ≤ grid k.val then sign n else 0 : ℝ)) : EReal) := by
    intro n
    unfold share slot
    rw [sum_bins grid grid_mono _ _ k.val hk]
    split <;> simp
  rw [Finset.sum_congr rfl fun n _ => e2 n, ← coe_sum]
  unfold table
  rw [← sum_cells]
  rfl

theorem result_apply (b : Fin 16) (j : Fin 96) :
    (val_main_v62 (F := Ideal) x : FVec Ideal S16x96 .f32) (ix2 b j) = table x (3 * b.val + j.val / 32) (j.val % 32) := by
  have h := counted_apply x ⟨3 * b.val + j.val / 32, by omega⟩ ⟨j.val % 32, by omega⟩
  unfold val_main_v62
  generalize val_main_v61 (F := Ideal) x = y at h ⊢
  pointwise
  rw [← h]
  refine congrArg y (congrArg (fun a => ix2 a _) (Fin.ext ?_))
  show b.val * 3 + j.val / 32 = 3 * b.val + j.val / 32
  rw [Nat.mul_comm]

end Cert.ReferenceIdeal.Ecc

end
-- ==== Proof.lean ====
/-
  The proof of `Cert.Claim`. The three frames are the programs' own runs; `preserves` states that nothing was rewritten;
  and the kernel and the reference end with the same array, the table of every image's signed counts at the thresholds
  (Proof/Final.lean for the kernel, Proof/Histogram.lean for the reference).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Read
public import proofs.«01_k».proof.Proof.Histogram
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem pre_facts : Cert.Pre_above_minus_infinity.Facts where
  bcast_S_S16x3x224x224 := by decide

/-- The precondition, pixel by pixel. -/
theorem above [Cert.Pre_above_minus_infinity.Facts] (x : FVec Ideal Cert.Pre_above_minus_infinity.S16x3x224x224 .f32)
    (h : Cert.Pre_above_minus_infinity.fn (F := Ideal) x = fun _ => 1#1) (j : Cert.Pre_above_minus_infinity.S16x3x224x224.Idx) :
    (⊥ : EReal) < x j := by
  have hj := congrFun h j
  have e : Ideal.ofBits .f32 0xFF800000#32 = (⊥ : EReal) := by simp [Ideal.ofBits, Ideal.ieee]
  change BitVec.ofBool (decide (Ideal.ofBits .f32 0xFF800000#32 < x j)) = 1#1 at hj
  rw [e] at hj
  by_contra hn
  rw [decide_eq_false hn] at hj
  exact absurd hj (by decide)

theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Two result arrays that agree at every row and column are equal. -/
theorem ext_pairs {A B : ℕ} (u v : FVec Ideal ⟨2, ![A, B]⟩ .f32) (h : ∀ a b, u (ix2 a b) = v (ix2 a b)) : u = v := by
  funext i
  have e : i = ix2 (i 0) (i 1) := by
    funext a
    match a with
    | ⟨0, _⟩ => rfl
    | ⟨1, _⟩ => rfl
  rw [e]
  exact h _ _

theorem equal_results : letI := Cert.KernelIdeal.Gen.facts; letI := Cert.ReferenceIdeal.Gen.facts; letI := pre_facts
    Cert.algebraic_KernelIdeal_ReferenceIdeal_pre_above_minus_infinity := by
  haveI := pre_facts
  intro m g m' g' hpre harg
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v17, ?_, ?_⟩
  · refine (θ_run Cert.KernelIdeal.defs _ _).mono (fun r h => ?_)
      (θ_run_and (Cert.KernelIdeal.Gen.run_main m g) (Cert.KernelIdeal.Gen.unchanged m g))
    exact fun c => ⟨(h.1 c).2 Cert.KernelIdeal.main_v17 (Pipeline.mem_restRefs_of Cert.KernelIdeal.main_v17 (by decide) (by decide)), h.2 c⟩
  · refine (θ_run Cert.ReferenceIdeal.defs _ _).mono (fun r h => ?_) (Cert.ReferenceIdeal.Value.run (F := Ideal) m' g')
    intro c
    refine ⟨(h c).1.trans ?_, (h c).2⟩
    refine (Cert.ReferenceIdeal.Read.val_main_v62_eq m' c).trans ?_
    rw [harg c]
    refine ext_pairs (A := 16) (B := 96) _ _ fun b j => ?_
    exact (Cert.ReferenceIdeal.Ecc.result_apply _ b j).trans
      (Cert.KernelIdeal.Ecc.result_apply m c (above _ (hpre c)) b j).symm

theorem claim : Cert.Claim := ⟨Cert.Kernel.Gen.facts, Cert.KernelIdeal.Gen.facts, Cert.ReferenceIdeal.Gen.facts, pre_facts,
  fun m g _ => Cert.Kernel.Gen.frame m g, fun m g _ => Cert.KernelIdeal.Gen.frame m g, fun m g _ => Cert.KernelIdeal.Gen.frame m g,
  fun m g _ => reference_frame m g, fun m g _ => reference_frame m g, trivial, equal_results⟩

end Cert.Proof

end
